-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_plus_infinity_and_y_nonzero [hPre_no_plus_infinity_and_y_nonzero : Cert.Pre_no_plus_infinity_and_y_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_no_plus_infinity_and_y_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_plus_infinity_and_y_nonzero [hPre_no_plus_infinity_and_y_nonzero : Cert.Pre_no_plus_infinity_and_y_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_plus_infinity_and_y_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_plus_infinity_and_y_nonzero [hKernelIdeal : Cert.KernelIdeal.Facts] [hPre_no_plus_infinity_and_y_nonzero : Cert.Pre_no_plus_infinity_and_y_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_plus_infinity_and_y_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_plus_infinity_and_y_nonzero [hReferenceIdeal : Cert.ReferenceIdeal.Facts] [hPre_no_plus_infinity_and_y_nonzero : Cert.Pre_no_plus_infinity_and_y_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_plus_infinity_and_y_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "t1" .f32 0x3C257EB5#32 ((1 / 99 : ℝ) : EReal)
  ∧ IdealRules.named_const.Statement Cert.KernelIdeal.κ "t2" .f32 0x3CA57EB5#32 ((2 / 99 : ℝ) : EReal)
  ∧ IdealRules.named_const.Statement Cert.KernelIdeal.κ "t3" .f32 0x3CF83E10#32 ((1 / 33 : ℝ) : EReal)
  ∧ IdealRules.named_const.Statement Cert.KernelIdeal.κ "t4" .f32 0x3D257EB5#32 ((4 / 99 : ℝ) : EReal)
  ∧ IdealRules.named_const.Statement Cert.KernelIdeal.κ "t5" .f32 0x3D4EDE62#32 ((5 / 99 : ℝ) : EReal)
  ∧ IdealRules.named_const.Statement Cert.KernelIdeal.κ "t6" .f32 0x3D783E10#32 ((2 / 33 : ℝ) : EReal)
  ∧ IdealRules.named_const.Statement Cert.KernelIdeal.κ "t7" .f32 0x3D90CEDE#32 ((7 / 99 : ℝ) : EReal)
  ∧ IdealRules.named_const.Statement Cert.KernelIdeal.κ "t8" .f32 0x3DA57EB5#32 ((8 / 99 : ℝ) : EReal)
  ∧ IdealRules.named_const.Statement Cert.KernelIdeal.κ "t9" .f32 0x3DBA2E8C#32 ((1 / 11 : ℝ) : EReal)
  ∧ IdealRules.named_const.Statement Cert.KernelIdeal.κ "t10" .f32 0x3DCEDE62#32 ((10 / 99 : ℝ) : EReal)
  ∧ IdealRules.named_const.Statement Cert.KernelIdeal.κ "t11" .f32 0x3DE38E39#32 ((1 / 9 : ℝ) : EReal)
  ∧ IdealRules.named_const.Statement Cert.KernelIdeal.κ "t12" .f32 0x3DF83E10#32 ((4 / 33 : ℝ) : EReal)
  ∧ IdealRules.named_const.Statement Cert.KernelIdeal.κ "t13" .f32 0x3E0676F3#32 ((13 / 99 : ℝ) : EReal)
  ∧ IdealRules.named_const.Statement Cert.KernelIdeal.κ "t14" .f32 0x3E10CEDE#32 ((14 / 99 : ℝ) : EReal)
  ∧ IdealRules.named_const.Statement Cert.KernelIdeal.κ "t15" .f32 0x3E1B26CA#32 ((5 / 33 : ℝ) : EReal)
  ∧ IdealRules.named_const.Statement Cert.KernelIdeal.κ "t16" .f32 0x3E257EB5#32 ((16 / 99 : ℝ) : EReal)
  ∧ IdealRules.named_const.Statement Cert.KernelIdeal.κ "t17" .f32 0x3E2FD6A0#32 ((17 / 99 : ℝ) : EReal)
  ∧ IdealRules.named_const.Statement Cert.KernelIdeal.κ "t18" .f32 0x3E3A2E8C#32 ((2 / 11 : ℝ) : EReal)
  ∧ IdealRules.named_const.Statement Cert.KernelIdeal.κ "t19" .f32 0x3E448677#32 ((19 / 99 : ℝ) : EReal)
  ∧ IdealRules.named_const.Statement Cert.KernelIdeal.κ "t20" .f32 0x3E4EDE62#32 ((20 / 99 : ℝ) : EReal)
  ∧ IdealRules.named_const.Statement Cert.KernelIdeal.κ "t21" .f32 0x3E59364E#32 ((7 / 33 : ℝ) : EReal)
  ∧ IdealRules.named_const.Statement Cert.KernelIdeal.κ "t22" .f32 0x3E638E39#32 ((2 / 9 : ℝ) : EReal)
  ∧ IdealRules.named_const.Statement Cert.KernelIdeal.κ "t23" .f32 0x3E6DE624#32 ((23 / 99 : ℝ) : EReal)
  ∧ IdealRules.named_const.Statement Cert.KernelIdeal.κ "t24" .f32 0x3E783E10#32 ((8 / 33 : ℝ) : EReal)
  ∧ IdealRules.named_const.Statement Cert.KernelIdeal.κ "t25" .f32 0x3E814AFD#32 ((25 / 99 : ℝ) : EReal)
  ∧ IdealRules.named_const.Statement Cert.KernelIdeal.κ "t26" .f32 0x3E8676F3#32 ((26 / 99 : ℝ) : EReal)
  ∧ IdealRules.named_const.Statement Cert.KernelIdeal.κ "t27" .f32 0x3E8BA2E9#32 ((3 / 11 : ℝ) : EReal)
  ∧ IdealRules.named_const.Statement Cert.KernelIdeal.κ "t28" .f32 0x3E90CEDE#32 ((28 / 99 : ℝ) : EReal)
  ∧ IdealRules.named_const.Statement Cert.KernelIdeal.κ "t29" .f32 0x3E95FAD4#32 ((29 / 99 : ℝ) : EReal)
  ∧ IdealRules.named_const.Statement Cert.KernelIdeal.κ "t30" .f32 0x3E9B26CA#32 ((10 / 33 : ℝ) : EReal)
  ∧ IdealRules.named_const.Statement Cert.KernelIdeal.κ "t31" .f32 0x3EA052BF#32 ((31 / 99 : ℝ) : EReal)
  ∧ IdealRules.named_const.Statement Cert.KernelIdeal.κ "t32" .f32 0x3EA57EB5#32 ((32 / 99 : ℝ) : EReal)
  ∧ IdealRules.named_const.Statement Cert.KernelIdeal.κ "t33" .f32 0x3EAAAAAB#32 ((1 / 3 : ℝ) : EReal)
  ∧ IdealRules.named_const.Statement Cert.KernelIdeal.κ "t34" .f32 0x3EAFD6A0#32 ((34 / 99 : ℝ) : EReal)
  ∧ IdealRules.named_const.Statement Cert.KernelIdeal.κ "t35" .f32 0x3EB50296#32 ((35 / 99 : ℝ) : EReal)
  ∧ IdealRules.named_const.Statement Cert.KernelIdeal.κ "t36" .f32 0x3EBA2E8C#32 ((4 / 11 : ℝ) : EReal)
  ∧ IdealRules.named_const.Statement Cert.KernelIdeal.κ "t37" .f32 0x3EBF5A81#32 ((37 / 99 : ℝ) : EReal)
  ∧ IdealRules.named_const.Statement Cert.KernelIdeal.κ "t38" .f32 0x3EC48677#32 ((38 / 99 : ℝ) : EReal)
  ∧ IdealRules.named_const.Statement Cert.KernelIdeal.κ "t39" .f32 0x3EC9B26D#32 ((13 / 33 : ℝ) : EReal)
  ∧ IdealRules.named_const.Statement Cert.KernelIdeal.κ "t40" .f32 0x3ECEDE62#32 ((40 / 99 : ℝ) : EReal)
  ∧ IdealRules.named_const.Statement Cert.KernelIdeal.κ "t41" .f32 0x3ED40A58#32 ((41 / 99 : ℝ) : EReal)
  ∧ IdealRules.named_const.Statement Cert.KernelIdeal.κ "t42" .f32 0x3ED9364E#32 ((14 / 33 : ℝ) : EReal)
  ∧ IdealRules.named_const.Statement Cert.KernelIdeal.κ "t43" .f32 0x3EDE6243#32 ((43 / 99 : ℝ) : EReal)
  ∧ IdealRules.named_const.Statement Cert.KernelIdeal.κ "t44" .f32 0x3EE38E39#32 ((4 / 9 : ℝ) : EReal)
  ∧ IdealRules.named_const.Statement Cert.KernelIdeal.κ "t45" .f32 0x3EE8BA2F#32 ((5 / 11 : ℝ) : EReal)
  ∧ IdealRules.named_const.Statement Cert.KernelIdeal.κ "t46" .f32 0x3EEDE624#32 ((46 / 99 : ℝ) : EReal)
  ∧ IdealRules.named_const.Statement Cert.KernelIdeal.κ "t47" .f32 0x3EF3121A#32 ((47 / 99 : ℝ) : EReal)
  ∧ IdealRules.named_const.Statement Cert.KernelIdeal.κ "t48" .f32 0x3EF83E10#32 ((16 / 33 : ℝ) : EReal)
  ∧ IdealRules.named_const.Statement Cert.KernelIdeal.κ "t49" .f32 0x3EFD6A05#32 ((49 / 99 : ℝ) : EReal)
  ∧ IdealRules.named_const.Statement Cert.KernelIdeal.κ "t50" .f32 0x3F014AFD#32 ((50 / 99 : ℝ) : EReal)
  ∧ IdealRules.named_const.Statement Cert.KernelIdeal.κ "t51" .f32 0x3F03E0F8#32 ((17 / 33 : ℝ) : EReal)
  ∧ IdealRules.named_const.Statement Cert.KernelIdeal.κ "t52" .f32 0x3F0676F3#32 ((52 / 99 : ℝ) : EReal)
  ∧ IdealRules.named_const.Statement Cert.KernelIdeal.κ "t53" .f32 0x3F090CEE#32 ((53 / 99 : ℝ) : EReal)
  ∧ IdealRules.named_const.Statement Cert.KernelIdeal.κ "t54" .f32 0x3F0BA2E9#32 ((6 / 11 : ℝ) : EReal)
  ∧ IdealRules.named_const.Statement Cert.KernelIdeal.κ "t55" .f32 0x3F0E38E4#32 ((5 / 9 : ℝ) : EReal)
  ∧ IdealRules.named_const.Statement Cert.KernelIdeal.κ "t56" .f32 0x3F10CEDE#32 ((56 / 99 : ℝ) : EReal)
  ∧ IdealRules.named_const.Statement Cert.KernelIdeal.κ "t57" .f32 0x3F1364D9#32 ((19 / 33 : ℝ) : EReal)
  ∧ IdealRules.named_const.Statement Cert.KernelIdeal.κ "t58" .f32 0x3F15FAD4#32 ((58 / 99 : ℝ) : EReal)
  ∧ IdealRules.named_const.Statement Cert.KernelIdeal.κ "t59" .f32 0x3F1890CF#32 ((59 / 99 : ℝ) : EReal)
  ∧ IdealRules.named_const.Statement Cert.KernelIdeal.κ "t60" .f32 0x3F1B26CA#32 ((20 / 33 : ℝ) : EReal)
  ∧ IdealRules.named_const.Statement Cert.KernelIdeal.κ "t61" .f32 0x3F1DBCC5#32 ((61 / 99 : ℝ) : EReal)
  ∧ IdealRules.named_const.Statement Cert.KernelIdeal.κ "t62" .f32 0x3F2052BF#32 ((62 / 99 : ℝ) : EReal)
  ∧ IdealRules.named_const.Statement Cert.KernelIdeal.κ "t63" .f32 0x3F22E8BA#32 ((7 / 11 : ℝ) : EReal)
  ∧ IdealRules.named_const.Statement Cert.KernelIdeal.κ "t64" .f32 0x3F257EB5#32 ((64 / 99 : ℝ) : EReal)
  ∧ IdealRules.named_const.Statement Cert.KernelIdeal.κ "t65" .f32 0x3F2814B0#32 ((65 / 99 : ℝ) : EReal)
  ∧ IdealRules.named_const.Statement Cert.KernelIdeal.κ "t66" .f32 0x3F2AAAAB#32 ((2 / 3 : ℝ) : EReal)
  ∧ IdealRules.named_const.Statement Cert.KernelIdeal.κ "t67" .f32 0x3F2D40A5#32 ((67 / 99 : ℝ) : EReal)
  ∧ IdealRules.named_const.Statement Cert.KernelIdeal.κ "t68" .f32 0x3F2FD6A0#32 ((68 / 99 : ℝ) : EReal)
  ∧ IdealRules.named_const.Statement Cert.KernelIdeal.κ "t69" .f32 0x3F326C9B#32 ((23 / 33 : ℝ) : EReal)
  ∧ IdealRules.named_const.Statement Cert.KernelIdeal.κ "t70" .f32 0x3F350296#32 ((70 / 99 : ℝ) : EReal)
  ∧ IdealRules.named_const.Statement Cert.KernelIdeal.κ "t71" .f32 0x3F379891#32 ((71 / 99 : ℝ) : EReal)
  ∧ IdealRules.named_const.Statement Cert.KernelIdeal.κ "t72" .f32 0x3F3A2E8C#32 ((8 / 11 : ℝ) : EReal)
  ∧ IdealRules.named_const.Statement Cert.KernelIdeal.κ "t73" .f32 0x3F3CC486#32 ((73 / 99 : ℝ) : EReal)
  ∧ IdealRules.named_const.Statement Cert.KernelIdeal.κ "t74" .f32 0x3F3F5A81#32 ((74 / 99 : ℝ) : EReal)
  ∧ IdealRules.named_const.Statement Cert.KernelIdeal.κ "t75" .f32 0x3F41F07C#32 ((25 / 33 : ℝ) : EReal)
  ∧ IdealRules.named_const.Statement Cert.KernelIdeal.κ "t76" .f32 0x3F448677#32 ((76 / 99 : ℝ) : EReal)
  ∧ IdealRules.named_const.Statement Cert.KernelIdeal.κ "t77" .f32 0x3F471C72#32 ((7 / 9 : ℝ) : EReal)
  ∧ IdealRules.named_const.Statement Cert.KernelIdeal.κ "t78" .f32 0x3F49B26D#32 ((26 / 33 : ℝ) : EReal)
  ∧ IdealRules.named_const.Statement Cert.KernelIdeal.κ "t79" .f32 0x3F4C4867#32 ((79 / 99 : ℝ) : EReal)
  ∧ IdealRules.named_const.Statement Cert.KernelIdeal.κ "t80" .f32 0x3F4EDE62#32 ((80 / 99 : ℝ) : EReal)
  ∧ IdealRules.named_const.Statement Cert.KernelIdeal.κ "t81" .f32 0x3F51745D#32 ((9 / 11 : ℝ) : EReal)
  ∧ IdealRules.named_const.Statement Cert.KernelIdeal.κ "t82" .f32 0x3F540A58#32 ((82 / 99 : ℝ) : EReal)
  ∧ IdealRules.named_const.Statement Cert.KernelIdeal.κ "t83" .f32 0x3F56A053#32 ((83 / 99 : ℝ) : EReal)
  ∧ IdealRules.named_const.Statement Cert.KernelIdeal.κ "t84" .f32 0x3F59364E#32 ((28 / 33 : ℝ) : EReal)
  ∧ IdealRules.named_const.Statement Cert.KernelIdeal.κ "t85" .f32 0x3F5BCC48#32 ((85 / 99 : ℝ) : EReal)
  ∧ IdealRules.named_const.Statement Cert.KernelIdeal.κ "t86" .f32 0x3F5E6243#32 ((86 / 99 : ℝ) : EReal)
  ∧ IdealRules.named_const.Statement Cert.KernelIdeal.κ "t87" .f32 0x3F60F83E#32 ((29 / 33 : ℝ) : EReal)
  ∧ IdealRules.named_const.Statement Cert.KernelIdeal.κ "t88" .f32 0x3F638E39#32 ((8 / 9 : ℝ) : EReal)
  ∧ IdealRules.named_const.Statement Cert.KernelIdeal.κ "t89" .f32 0x3F662434#32 ((89 / 99 : ℝ) : EReal)
  ∧ IdealRules.named_const.Statement Cert.KernelIdeal.κ "t90" .f32 0x3F68BA2F#32 ((10 / 11 : ℝ) : EReal)
  ∧ IdealRules.named_const.Statement Cert.KernelIdeal.κ "t91" .f32 0x3F6B5029#32 ((91 / 99 : ℝ) : EReal)
  ∧ IdealRules.named_const.Statement Cert.KernelIdeal.κ "t92" .f32 0x3F6DE624#32 ((92 / 99 : ℝ) : EReal)
  ∧ IdealRules.named_const.Statement Cert.KernelIdeal.κ "t93" .f32 0x3F707C1F#32 ((31 / 33 : ℝ) : EReal)
  ∧ IdealRules.named_const.Statement Cert.KernelIdeal.κ "t94" .f32 0x3F73121A#32 ((94 / 99 : ℝ) : EReal)
  ∧ IdealRules.named_const.Statement Cert.KernelIdeal.κ "t95" .f32 0x3F75A815#32 ((95 / 99 : ℝ) : EReal)
  ∧ IdealRules.named_const.Statement Cert.KernelIdeal.κ "t96" .f32 0x3F783E10#32 ((32 / 33 : ℝ) : EReal)
  ∧ IdealRules.named_const.Statement Cert.KernelIdeal.κ "t97" .f32 0x3F7AD40A#32 ((97 / 99 : ℝ) : EReal)
  ∧ IdealRules.named_const.Statement Cert.KernelIdeal.κ "t98" .f32 0x3F7D6A05#32 ((98 / 99 : ℝ) : EReal)

def algebraic_KernelIdeal_ReferenceIdeal_pre_no_plus_infinity_and_y_nonzero [hKernelIdeal : Cert.KernelIdeal.Facts] [hReferenceIdeal : Cert.ReferenceIdeal.Facts] [hPre_no_plus_infinity_and_y_nonzero : Cert.Pre_no_plus_infinity_and_y_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_plus_infinity_and_y_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_plus_infinity_and_y_nonzero : Cert.Pre_no_plus_infinity_and_y_nonzero.Facts),
    quiescent_Kernel (hKernel := hKernel)
    ∧ quiescent_KernelIdeal (hKernelIdeal := hKernelIdeal)
    ∧ quiescent_KernelIdeal_pre_no_plus_infinity_and_y_nonzero (hKernelIdeal := hKernelIdeal) (hPre_no_plus_infinity_and_y_nonzero := hPre_no_plus_infinity_and_y_nonzero)
    ∧ quiescent_ReferenceIdeal (hReferenceIdeal := hReferenceIdeal)
    ∧ quiescent_ReferenceIdeal_pre_no_plus_infinity_and_y_nonzero (hReferenceIdeal := hReferenceIdeal) (hPre_no_plus_infinity_and_y_nonzero := hPre_no_plus_infinity_and_y_nonzero)
    ∧ preserves_Kernel_KernelIdeal
    ∧ algebraic_KernelIdeal_ReferenceIdeal_pre_no_plus_infinity_and_y_nonzero (hKernelIdeal := hKernelIdeal) (hReferenceIdeal := hReferenceIdeal) (hPre_no_plus_infinity_and_y_nonzero := hPre_no_plus_infinity_and_y_nonzero)
-- ==== Pre_no_plus_infinity_and_y_nonzero.lean ====
abbrev S4096x16384 : Shape := ⟨2, ![4096, 16384]⟩
abbrev S4096 : Shape := ⟨1, ![4096]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x16384 .f32) (main_arg1 : FVec F S4096 .f32) : IVec S_ 1 :=
  let main_cst : FVec F S_ .f32 := constant S_ .f32 0x7F800000#32
  let main_v0 : FVec F S4096x16384 .f32 := broadcastInDim S4096x16384 ![] bcast_S_S4096x16384 main_cst
  let main_v1 : IVec S4096x16384 1 := cmpf .olt main_arg0 main_v0
  let main_c : IVec S_ 1 := constantI S_ 1 1#1
  let main_v2 : IVec S_ 1 := (fun x v => Host.reduce IntOp.andi x v reducesTo_S4096x16384_S_d0_1 h_S_) main_v1 main_c
  let main_cst_0 : FVec F S_ .f32 := constant S_ .f32 0x00000000#32
  let main_v3 : FVec F S4096 .f32 := broadcastInDim S4096 ![] bcast_S_S4096 main_cst_0
  let main_v4 : IVec S4096 1 := cmpf .une main_arg1 main_v3
  let main_c_1 : IVec S_ 1 := constantI S_ 1 1#1
  let main_v5 : IVec S_ 1 := (fun x v => Host.reduce IntOp.andi x v reducesTo_S4096_S_d0 h_S_) main_v4 main_c_1
  let main_v6 : IVec S_ 1 := andi main_v2 main_v5
  main_v6
-- ==== Kernel.lean ====
abbrev S4096x16384 : Shape := ⟨2, ![4096, 16384]⟩
abbrev S4096 : Shape := ⟨1, ![4096]⟩
abbrev S4096x1 : Shape := ⟨2, ![4096, 1]⟩
abbrev S4096x100 : Shape := ⟨2, ![4096, 100]⟩
abbrev S8x2048 : Shape := ⟨2, ![8, 2048]⟩
abbrev S8x1 : Shape := ⟨2, ![8, 1]⟩
abbrev S8x100 : Shape := ⟨2, ![8, 100]⟩
abbrev S8x128 : Shape := ⟨2, ![8, 128]⟩
abbrev S8 : Shape := ⟨1, ![8]⟩
abbrev S8x99 : Shape := ⟨2, ![8, 99]⟩

abbrev nBuf : Space → Nat
  | .hbm => 7
  | .vmem => 13
  | .smem => 0
  | _ => 0

abbrev bufTy : (tb : Table) → Fin (tcTables nBuf tb) → BufTy
  | .hbm, ⟨0, _⟩ => ⟨S4096x16384, .f32⟩
  | .hbm, ⟨1, _⟩ => ⟨S4096, .f32⟩
  | .hbm, ⟨2, _⟩ => ⟨S4096x1, .f32⟩
  | .hbm, ⟨3, _⟩ => ⟨S4096x100, .f32⟩
  | .hbm, ⟨4, _⟩ => ⟨S4096x100, .f32⟩
  | .hbm, ⟨5, _⟩ => ⟨S4096x1, .f32⟩
  | .hbm, ⟨6, _⟩ => ⟨S4096x1, .f32⟩
  | .local _ .vmem, ⟨0, _⟩ => ⟨S8x2048, .f32⟩
  | .local _ .vmem, ⟨1, _⟩ => ⟨S8x2048, .f32⟩
  | .local _ .vmem, ⟨2, _⟩ => ⟨S8x1, .f32⟩
  | .local _ .vmem, ⟨3, _⟩ => ⟨S8x1, .f32⟩
  | .local _ .vmem, ⟨4, _⟩ => ⟨S8x100, .f32⟩
  | .local _ .vmem, ⟨5, _⟩ => ⟨S8x100, .f32⟩
  | .local _ .vmem, ⟨6, _⟩ => ⟨S8x100, .f32⟩
  | .local _ .vmem, ⟨7, _⟩ => ⟨S8x100, .f32⟩
  | .local _ .vmem, ⟨8, _⟩ => ⟨S8x1, .f32⟩
  | .local _ .vmem, ⟨9, _⟩ => ⟨S8x1, .f32⟩
  | .local _ .vmem, ⟨10, _⟩ => ⟨S8x1, .f32⟩
  | .local _ .vmem, ⟨11, _⟩ => ⟨S8x1, .f32⟩
  | .local _ .vmem, ⟨12, _⟩ => ⟨S8x128, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![512, 8], ![false, false]⟩

def k0_cond3 (i : grid0.Coords) : BitVec 1 :=
  let arg1 : BitVec 32 := BitVec.ofNat 32 (i 1).val
  let c7_i32_305 : BitVec 32 := 7#32
  let v1109 : BitVec 1 := Scalar.cmpi .eq arg1 c7_i32_305
  let v1110 : BitVec 32 := Scalar.extui v1109
  let c0_i32_306 : BitVec 32 := 0#32
  let v1111 : BitVec 1 := Scalar.cmpi .ne v1110 c0_i32_306
  v1111

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
abbrev S4096x16384 : Shape := ⟨2, ![4096, 16384]⟩
abbrev S4096 : Shape := ⟨1, ![4096]⟩
abbrev S4096x1 : Shape := ⟨2, ![4096, 1]⟩
abbrev S4096x100 : Shape := ⟨2, ![4096, 100]⟩
abbrev S8x2048 : Shape := ⟨2, ![8, 2048]⟩
abbrev S8x1 : Shape := ⟨2, ![8, 1]⟩
abbrev S8x100 : Shape := ⟨2, ![8, 100]⟩
abbrev S8x128 : Shape := ⟨2, ![8, 128]⟩
abbrev S8 : Shape := ⟨1, ![8]⟩
abbrev S8x99 : Shape := ⟨2, ![8, 99]⟩

abbrev nBuf : Space → Nat
  | .hbm => 7
  | .vmem => 13
  | .smem => 0
  | _ => 0

abbrev bufTy : (tb : Table) → Fin (tcTables nBuf tb) → BufTy
  | .hbm, ⟨0, _⟩ => ⟨S4096x16384, .f32⟩
  | .hbm, ⟨1, _⟩ => ⟨S4096, .f32⟩
  | .hbm, ⟨2, _⟩ => ⟨S4096x1, .f32⟩
  | .hbm, ⟨3, _⟩ => ⟨S4096x100, .f32⟩
  | .hbm, ⟨4, _⟩ => ⟨S4096x100, .f32⟩
  | .hbm, ⟨5, _⟩ => ⟨S4096x1, .f32⟩
  | .hbm, ⟨6, _⟩ => ⟨S4096x1, .f32⟩
  | .local _ .vmem, ⟨0, _⟩ => ⟨S8x2048, .f32⟩
  | .local _ .vmem, ⟨1, _⟩ => ⟨S8x2048, .f32⟩
  | .local _ .vmem, ⟨2, _⟩ => ⟨S8x1, .f32⟩
  | .local _ .vmem, ⟨3, _⟩ => ⟨S8x1, .f32⟩
  | .local _ .vmem, ⟨4, _⟩ => ⟨S8x100, .f32⟩
  | .local _ .vmem, ⟨5, _⟩ => ⟨S8x100, .f32⟩
  | .local _ .vmem, ⟨6, _⟩ => ⟨S8x100, .f32⟩
  | .local _ .vmem, ⟨7, _⟩ => ⟨S8x100, .f32⟩
  | .local _ .vmem, ⟨8, _⟩ => ⟨S8x1, .f32⟩
  | .local _ .vmem, ⟨9, _⟩ => ⟨S8x1, .f32⟩
  | .local _ .vmem, ⟨10, _⟩ => ⟨S8x1, .f32⟩
  | .local _ .vmem, ⟨11, _⟩ => ⟨S8x1, .f32⟩
  | .local _ .vmem, ⟨12, _⟩ => ⟨S8x128, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F] [Named F]

def κ : String → Option EReal := fun
  | "t1" => some ((1 / 99 : ℝ) : EReal)
  | "t10" => some ((10 / 99 : ℝ) : EReal)
  | "t11" => some ((1 / 9 : ℝ) : EReal)
  | "t12" => some ((4 / 33 : ℝ) : EReal)
  | "t13" => some ((13 / 99 : ℝ) : EReal)
  | "t14" => some ((14 / 99 : ℝ) : EReal)
  | "t15" => some ((5 / 33 : ℝ) : EReal)
  | "t16" => some ((16 / 99 : ℝ) : EReal)
  | "t17" => some ((17 / 99 : ℝ) : EReal)
  | "t18" => some ((2 / 11 : ℝ) : EReal)
  | "t19" => some ((19 / 99 : ℝ) : EReal)
  | "t2" => some ((2 / 99 : ℝ) : EReal)
  | "t20" => some ((20 / 99 : ℝ) : EReal)
  | "t21" => some ((7 / 33 : ℝ) : EReal)
  | "t22" => some ((2 / 9 : ℝ) : EReal)
  | "t23" => some ((23 / 99 : ℝ) : EReal)
  | "t24" => some ((8 / 33 : ℝ) : EReal)
  | "t25" => some ((25 / 99 : ℝ) : EReal)
  | "t26" => some ((26 / 99 : ℝ) : EReal)
  | "t27" => some ((3 / 11 : ℝ) : EReal)
  | "t28" => some ((28 / 99 : ℝ) : EReal)
  | "t29" => some ((29 / 99 : ℝ) : EReal)
  | "t3" => some ((1 / 33 : ℝ) : EReal)
  | "t30" => some ((10 / 33 : ℝ) : EReal)
  | "t31" => some ((31 / 99 : ℝ) : EReal)
  | "t32" => some ((32 / 99 : ℝ) : EReal)
  | "t33" => some ((1 / 3 : ℝ) : EReal)
  | "t34" => some ((34 / 99 : ℝ) : EReal)
  | "t35" => some ((35 / 99 : ℝ) : EReal)
  | "t36" => some ((4 / 11 : ℝ) : EReal)
  | "t37" => some ((37 / 99 : ℝ) : EReal)
  | "t38" => some ((38 / 99 : ℝ) : EReal)
  | "t39" => some ((13 / 33 : ℝ) : EReal)
  | "t4" => some ((4 / 99 : ℝ) : EReal)
  | "t40" => some ((40 / 99 : ℝ) : EReal)
  | "t41" => some ((41 / 99 : ℝ) : EReal)
  | "t42" => some ((14 / 33 : ℝ) : EReal)
  | "t43" => some ((43 / 99 : ℝ) : EReal)
  | "t44" => some ((4 / 9 : ℝ) : EReal)
  | "t45" => some ((5 / 11 : ℝ) : EReal)
  | "t46" => some ((46 / 99 : ℝ) : EReal)
  | "t47" => some ((47 / 99 : ℝ) : EReal)
  | "t48" => some ((16 / 33 : ℝ) : EReal)
  | "t49" => some ((49 / 99 : ℝ) : EReal)
  | "t5" => some ((5 / 99 : ℝ) : EReal)
  | "t50" => some ((50 / 99 : ℝ) : EReal)
  | "t51" => some ((17 / 33 : ℝ) : EReal)
  | "t52" => some ((52 / 99 : ℝ) : EReal)
  | "t53" => some ((53 / 99 : ℝ) : EReal)
  | "t54" => some ((6 / 11 : ℝ) : EReal)
  | "t55" => some ((5 / 9 : ℝ) : EReal)
  | "t56" => some ((56 / 99 : ℝ) : EReal)
  | "t57" => some ((19 / 33 : ℝ) : EReal)
  | "t58" => some ((58 / 99 : ℝ) : EReal)
  | "t59" => some ((59 / 99 : ℝ) : EReal)
  | "t6" => some ((2 / 33 : ℝ) : EReal)
  | "t60" => some ((20 / 33 : ℝ) : EReal)
  | "t61" => some ((61 / 99 : ℝ) : EReal)
  | "t62" => some ((62 / 99 : ℝ) : EReal)
  | "t63" => some ((7 / 11 : ℝ) : EReal)
  | "t64" => some ((64 / 99 : ℝ) : EReal)
  | "t65" => some ((65 / 99 : ℝ) : EReal)
  | "t66" => some ((2 / 3 : ℝ) : EReal)
  | "t67" => some ((67 / 99 : ℝ) : EReal)
  | "t68" => some ((68 / 99 : ℝ) : EReal)
  | "t69" => some ((23 / 33 : ℝ) : EReal)
  | "t7" => some ((7 / 99 : ℝ) : EReal)
  | "t70" => some ((70 / 99 : ℝ) : EReal)
  | "t71" => some ((71 / 99 : ℝ) : EReal)
  | "t72" => some ((8 / 11 : ℝ) : EReal)
  | "t73" => some ((73 / 99 : ℝ) : EReal)
  | "t74" => some ((74 / 99 : ℝ) : EReal)
  | "t75" => some ((25 / 33 : ℝ) : EReal)
  | "t76" => some ((76 / 99 : ℝ) : EReal)
  | "t77" => some ((7 / 9 : ℝ) : EReal)
  | "t78" => some ((26 / 33 : ℝ) : EReal)
  | "t79" => some ((79 / 99 : ℝ) : EReal)
  | "t8" => some ((8 / 99 : ℝ) : EReal)
  | "t80" => some ((80 / 99 : ℝ) : EReal)
  | "t81" => some ((9 / 11 : ℝ) : EReal)
  | "t82" => some ((82 / 99 : ℝ) : EReal)
  | "t83" => some ((83 / 99 : ℝ) : EReal)
  | "t84" => some ((28 / 33 : ℝ) : EReal)
  | "t85" => some ((85 / 99 : ℝ) : EReal)
  | "t86" => some ((86 / 99 : ℝ) : EReal)
  | "t87" => some ((29 / 33 : ℝ) : EReal)
  | "t88" => some ((8 / 9 : ℝ) : EReal)
  | "t89" => some ((89 / 99 : ℝ) : EReal)
  | "t9" => some ((1 / 11 : ℝ) : EReal)
  | "t90" => some ((10 / 11 : ℝ) : EReal)
  | "t91" => some ((91 / 99 : ℝ) : EReal)
  | "t92" => some ((92 / 99 : ℝ) : EReal)
  | "t93" => some ((31 / 33 : ℝ) : EReal)
  | "t94" => some ((94 / 99 : ℝ) : EReal)
  | "t95" => some ((95 / 99 : ℝ) : EReal)
  | "t96" => some ((32 / 33 : ℝ) : EReal)
  | "t97" => some ((97 / 99 : ℝ) : EReal)
  | "t98" => some ((98 / 99 : ℝ) : EReal)
  | _ => none

abbrev grid0 : Pipeline.Grid := ⟨2, ![512, 8], ![false, false]⟩

def k0_cond3 (i : grid0.Coords) : BitVec 1 :=
  let arg1 : BitVec 32 := BitVec.ofNat 32 (i 1).val
  let c7_i32_305 : BitVec 32 := 7#32
  let v1109 : BitVec 1 := Scalar.cmpi .eq arg1 c7_i32_305
  let v1110 : BitVec 32 := Scalar.extui v1109
  let c0_i32_306 : BitVec 32 := 0#32
  let v1111 : BitVec 1 := Scalar.cmpi .ne v1110 c0_i32_306
  v1111

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4096x16384 : Shape := ⟨2, ![4096, 16384]⟩
abbrev S4096 : Shape := ⟨1, ![4096]⟩
abbrev S_ : Shape := ⟨0, ![]⟩
abbrev S99 : Shape := ⟨1, ![99]⟩
abbrev S1 : Shape := ⟨1, ![1]⟩
abbrev S100 : Shape := ⟨1, ![100]⟩
abbrev S1x1x100 : Shape := ⟨3, ![1, 1, 100]⟩
abbrev S4096x16384x1 : Shape := ⟨3, ![4096, 16384, 1]⟩
abbrev S4096x16384x100 : Shape := ⟨3, ![4096, 16384, 100]⟩
abbrev S4096x1 : Shape := ⟨2, ![4096, 1]⟩
abbrev S67108864 : Shape := ⟨1, ![67108864]⟩
abbrev S413696 : Shape := ⟨1, ![413696]⟩
abbrev S67108864x1 : Shape := ⟨2, ![67108864, 1]⟩
abbrev S4096x101 : Shape := ⟨2, ![4096, 101]⟩
abbrev S4096x99 : Shape := ⟨2, ![4096, 99]⟩
abbrev S4096x100 : Shape := ⟨2, ![4096, 100]⟩

abbrev nBuf : Space → Nat
  | .hbm => 97
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S99, .f32⟩
  | .hbm, ⟨10, _⟩ => ⟨S_, .f32⟩
  | .hbm, ⟨11, _⟩ => ⟨S99, .f32⟩
  | .hbm, ⟨12, _⟩ => ⟨S99, .f32⟩
  | .hbm, ⟨13, _⟩ => ⟨S1, .f32⟩
  | .hbm, ⟨14, _⟩ => ⟨S_, .f32⟩
  | .hbm, ⟨15, _⟩ => ⟨S99, .f32⟩
  | .hbm, ⟨16, _⟩ => ⟨S99, .f32⟩
  | .hbm, ⟨17, _⟩ => ⟨S99, .f32⟩
  | .hbm, ⟨18, _⟩ => ⟨S99, .f32⟩
  | .hbm, ⟨19, _⟩ => ⟨S1, .f32⟩
  | .hbm, ⟨20, _⟩ => ⟨S99, .f32⟩
  | .hbm, ⟨21, _⟩ => ⟨S99, .f32⟩
  | .hbm, ⟨22, _⟩ => ⟨S99, .f32⟩
  | .hbm, ⟨23, _⟩ => ⟨S1, .f32⟩
  | .hbm, ⟨24, _⟩ => ⟨S100, .f32⟩
  | .hbm, ⟨25, _⟩ => ⟨S1x1x100, .f32⟩
  | .hbm, ⟨26, _⟩ => ⟨S4096x16384x1, .f32⟩
  | .hbm, ⟨27, _⟩ => ⟨S4096x16384x100, .f32⟩
  | .hbm, ⟨28, _⟩ => ⟨S4096x16384x100, .f32⟩
  | .hbm, ⟨29, _⟩ => ⟨S4096x16384x100, .i1⟩
  | .hbm, ⟨30, _⟩ => ⟨S4096x16384x100, .i32⟩
  | .hbm, ⟨31, _⟩ => ⟨S_, .i32⟩
  | .hbm, ⟨32, _⟩ => ⟨S4096x16384, .i32⟩
  | .hbm, ⟨33, _⟩ => ⟨S_, .i32⟩
  | .hbm, ⟨34, _⟩ => ⟨S4096x16384, .i32⟩
  | .hbm, ⟨35, _⟩ => ⟨S4096x16384, .i32⟩
  | .hbm, ⟨36, _⟩ => ⟨S4096, .i32⟩
  | .hbm, ⟨37, _⟩ => ⟨S4096x1, .i32⟩
  | .hbm, ⟨38, _⟩ => ⟨S_, .i32⟩
  | .hbm, ⟨39, _⟩ => ⟨S4096x1, .i32⟩
  | .hbm, ⟨40, _⟩ => ⟨S4096x1, .i32⟩
  | .hbm, ⟨41, _⟩ => ⟨S_, .i32⟩
  | .hbm, ⟨42, _⟩ => ⟨S4096x16384, .i32⟩
  | .hbm, ⟨43, _⟩ => ⟨S4096x16384, .i32⟩
  | .hbm, ⟨44, _⟩ => ⟨S4096x16384, .i32⟩
  | .hbm, ⟨45, _⟩ => ⟨S4096x16384, .i32⟩
  | .hbm, ⟨46, _⟩ => ⟨S67108864, .i32⟩
  | .hbm, ⟨47, _⟩ => ⟨S67108864, .f32⟩
  | .hbm, ⟨48, _⟩ => ⟨S_, .f32⟩
  | .hbm, ⟨49, _⟩ => ⟨S413696, .f32⟩
  | .hbm, ⟨50, _⟩ => ⟨S67108864x1, .i32⟩
  | .hbm, ⟨51, _⟩ => ⟨S413696, .f32⟩
  | .hbm, ⟨52, _⟩ => ⟨S4096x101, .f32⟩
  | .hbm, ⟨53, _⟩ => ⟨S4096x99, .f32⟩
  | .hbm, ⟨54, _⟩ => ⟨S4096x1, .f32⟩
  | .hbm, ⟨55, _⟩ => ⟨S4096, .f32⟩
  | .hbm, ⟨56, _⟩ => ⟨S4096x1, .f32⟩
  | .hbm, ⟨57, _⟩ => ⟨S4096x100, .f32⟩
  | .hbm, ⟨58, _⟩ => ⟨S4096x100, .f32⟩
  | .hbm, ⟨59, _⟩ => ⟨S_, .f32⟩
  | .hbm, ⟨60, _⟩ => ⟨S_, .f32⟩
  | .hbm, ⟨61, _⟩ => ⟨S4096x100, .f32⟩
  | .hbm, ⟨62, _⟩ => ⟨S4096x100, .f32⟩
  | .hbm, ⟨63, _⟩ => ⟨S4096x1, .f32⟩
  | .hbm, ⟨64, _⟩ => ⟨S4096, .f32⟩
  | .hbm, ⟨65, _⟩ => ⟨S4096x1, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096x1, .f32⟩
  | .hbm, ⟨72, _⟩ => ⟨S4096x100, .f32⟩
  | .hbm, ⟨73, _⟩ => ⟨S4096x1, .f32⟩
  | .hbm, ⟨74, _⟩ => ⟨S4096x100, .f32⟩
  | .hbm, ⟨75, _⟩ => ⟨S4096x100, .f32⟩
  | .hbm, ⟨76, _⟩ => ⟨S4096x1, .f32⟩
  | .hbm, ⟨77, _⟩ => ⟨S4096x100, .f32⟩
  | .hbm, ⟨78, _⟩ => ⟨S4096x100, .f32⟩
  | .hbm, ⟨79, _⟩ => ⟨S4096x99, .f32⟩
  | .hbm, ⟨80, _⟩ => ⟨S4096x99, .f32⟩
  | .hbm, ⟨81, _⟩ => ⟨S4096x99, .f32⟩
  | .hbm, ⟨82, _⟩ => ⟨S_, .f32⟩
  | .hbm, ⟨83, _⟩ => ⟨S4096x99, .f32⟩
  | .hbm, ⟨84, _⟩ => ⟨S4096x99, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x99, .f32⟩
  | .hbm, ⟨89, _⟩ => ⟨S4096x99, .f32⟩
  | .hbm, ⟨90, _⟩ => ⟨S4096x99, .f32⟩
  | .hbm, ⟨91, _⟩ => ⟨S_, .f32⟩
  | .hbm, ⟨92, _⟩ => ⟨S4096x99, .f32⟩
  | .hbm, ⟨93, _⟩ => ⟨S4096x99, .f32⟩
  | .hbm, ⟨94, _⟩ => ⟨S_, .f32⟩
  | .hbm, ⟨95, _⟩ => ⟨S4096, .f32⟩
  | .hbm, ⟨96, _⟩ => ⟨S4096x1, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call2_call0_cst : Ref sig .tc := ⟨.hbm, 59, rfl⟩
abbrev main_call2_call0_v0 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_6 : Ref sig .tc := ⟨.hbm, 82, rfl⟩
abbrev main_v50 : Ref sig .tc := ⟨.hbm, 83, rfl⟩
abbrev main_v51 : Ref sig .tc := ⟨.hbm, 84, rfl⟩
abbrev main_cst_7 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_8 : Ref sig .tc := ⟨.hbm, 91, rfl⟩
abbrev main_v57 : Ref sig .tc := ⟨.hbm, 92, rfl⟩
abbrev main_v58 : Ref sig .tc := ⟨.hbm, 93, rfl⟩
abbrev main_cst_9 : Ref sig .tc := ⟨.hbm, 94, rfl⟩
abbrev main_v59 : Ref sig .tc := ⟨.hbm, 95, rfl⟩
abbrev main_v60 : Ref sig .tc := ⟨.hbm, 96, rfl⟩

abbrev nD : Nat := 1
abbrev τ : Topo := Topo.v7x

variable {F : FTy → Type} [FloatOps F]
-- ==== Proof.Pre.lean ====
/-
  What the precondition says of the inputs, entry by entry.
-/
module

public import proofs.«01_k».proof.Proof.Gen.Pre_no_plus_infinity_and_y_nonzero
public import Idealize.ShloMosaic.Lib.Pointwise
public import Idealize.ShloMosaic.Lib.ReduceAll
public import Idealize.ShloMosaic.PureOps.IdealRules

@[expose] public section

noncomputable section

namespace Cert.Inputs

open Cert.Pre_no_plus_infinity_and_y_nonzero Idealize.ShloMosaic

variable [Facts] (x : FVec Ideal S4096x16384 .f32) (y : FVec Ideal S4096 .f32)

/-- The two conditions that the precondition joins. -/
theorem both (h : fn (F := Ideal) x y = fun _ => 1#1) :
    (∀ i, Ideal.cmp .olt (x i) (Ideal.ofBits .f32 0x7F800000#32) = 1#1)
      ∧ ∀ i, Ideal.cmp .une (y i) (Ideal.ofBits .f32 0x00000000#32) = 1#1 := by
  have e := congrFun h (Shape.Idx.first Facts.h_S_)
  dsimp only [fn] at e
  have e' : IntOp.andi _ _ = 1#1 := e
  have one : ∀ p q : BitVec 1, IntOp.andi p q = 1#1 → p = 1#1 ∧ q = 1#1 := by decide
  obtain ⟨hx, hy⟩ := one _ _ e'
  exact ⟨fun i => Host.reduce_andi_all _ _ _ _ _ hx i, fun i => Host.reduce_andi_all _ _ _ _ _ hy i⟩

/-- No entry of `x` is plus infinity. -/
theorem x_lt (h : fn (F := Ideal) x y = fun _ => 1#1) (i) : x i < (⊤ : EReal) := by
  have e := (both x y h).1 i
  have ht : Ideal.ofBits .f32 0x7F800000#32 = (⊤ : EReal) := by simp [Ideal.ofBits, Ideal.ieee]
  rw [ht] at e
  by_contra hn
  simp [Ideal.cmp, hn] at e

/-- No entry of `y` is zero. -/
theorem y_ne (h : fn (F := Ideal) x y = fun _ => 1#1) (i) : y i ≠ (0 : EReal) := by
  have e := (both x y h).2 i
  rw [Ideal.ofBits_zero_f32] at e
  intro hz
  simp [Ideal.cmp, hz] at e

end Cert.Inputs

end
-- ==== Proof.Curve.lean ====
/-
  The curve of one row, as mathematics: a row of numbers `x`, a number `y`, and the thresholds `k / 99`.
-/
module

public import Idealize.ShloMosaic.PureOps.Ideal
public import Idealize.ShloMosaic.PureOps.Ideal.Laws

@[expose] public section

noncomputable section

namespace Cert.Curve

open Idealize.ShloMosaic

/-- Threshold number `k`: `k / 99`. -/
def thr (k : ℕ) : EReal := ((k / 99 : ℝ) : EReal)

/-- The thresholds increase. -/
theorem thr_mono {a b : ℕ} (h : a ≤ b) : thr a ≤ thr b := by
  unfold thr
  have : (a : ℝ) ≤ b := by exact_mod_cast h
  exact EReal.coe_le_coe_iff.2 (by gcongr)

/-- No threshold is negative. -/
theorem thr_nonneg (a : ℕ) : 0 ≤ thr a := by
  unfold thr
  exact EReal.coe_nonneg.2 (by positivity)

/-- The word `0x3F000000` is one half. -/
theorem half : Ideal.ofBits .f32 0x3F000000#32 = ((1 / 2 : ℝ) : EReal) := by
  simp [Ideal.ofBits, Ideal.ieee, -EReal.coe_mul]; norm_num

/-- The word `0x42C60000` is ninety-nine. -/
theorem ninetyNine : Ideal.ofBits .f32 0x42C60000#32 = ((99 : ℝ) : EReal) := by
  simp [Ideal.ofBits, Ideal.ieee, -EReal.coe_mul]; norm_num

/-- How many of the hundred thresholds an entry exceeds. -/
def rank (a : EReal) : ℕ := (Finset.univ.filter fun k : Fin 100 => thr k.val < a).card

/-- An entry exceeds more than `k` thresholds exactly when it exceeds threshold `k`. -/
theorem lt_rank {a : EReal} {k : ℕ} (hk : k < 100) : k < rank a ↔ thr k < a := by
  constructor
  · intro h
    by_contra hn
    have hs : (Finset.univ.filter fun i : Fin 100 => thr i.val < a) ⊆ Finset.univ.filter fun i : Fin 100 => i.val < k := by
      intro i hi
      simp only [Finset.mem_filter, Finset.mem_univ, true_and] at hi ⊢
      by_contra hik
      exact hn (lt_of_le_of_lt (thr_mono (Nat.le_of_not_lt hik)) hi)
    have hc := Finset.card_le_card hs
    rw [Fin.card_filter_val_lt] at hc
    have h2 := h
    unfold rank at h2
    omega
  · intro h
    have hs : (Finset.univ.filter fun i : Fin 100 => i.val < k + 1) ⊆ Finset.univ.filter fun i : Fin 100 => thr i.val < a := by
      intro i hi
      simp only [Finset.mem_filter, Finset.mem_univ, true_and] at hi ⊢
      exact lt_of_le_of_lt (thr_mono (by omega)) h
    have hc := Finset.card_le_card hs
    rw [Fin.card_filter_val_lt] at hc
    unfold rank
    omega

/-- An entry exceeds at most a hundred thresholds. -/
theorem rank_le (a : EReal) : rank a ≤ 100 := by
  unfold rank
  exact (Finset.card_le_univ _).trans (by simp)

variable {n : ℕ}

/-- The sum of the entries of a row that exceed threshold `k`. -/
def above (x : Fin n → EReal) (k : ℕ) : EReal := ∑ j, if thr k < x j then x j else 0

/-- The sum of the entries of a row that exceed exactly `k` thresholds. -/
def bin (x : Fin n → EReal) (k : ℕ) : EReal := ∑ j, if rank (x j) = k then x j else 0

/-- The entries above threshold `k` are those of the bins after `k`. -/
theorem sum_bins (x : Fin n → EReal) (k : ℕ) (hk : k < 100) :
    ∑ q ∈ Finset.Ico k 100, bin x (q + 1) = above x k := by
  unfold bin above
  rw [Finset.sum_comm]
  refine Finset.sum_congr rfl fun j _ => ?_
  by_cases h : thr k < x j
  · have hr := (lt_rank hk).2 h
    have hle := rank_le (x j)
    rw [if_pos h, Finset.sum_eq_single (rank (x j) - 1)]
    · rw [if_pos (by omega)]
    · intro q _ hq
      rw [if_neg (by omega)]
    · intro hq
      exact absurd (Finset.mem_Ico.2 ⟨by omega, by omega⟩) hq
  · rw [if_neg h]
    refine Finset.sum_eq_zero fun q hq => ?_
    have hr : ¬ k < rank (x j) := fun h' => h ((lt_rank hk).1 h')
    have := (Finset.mem_Ico.1 hq).1
    rw [if_neg (by omega)]

/-- The same sum, over the hundred bins read from the last to the first. -/
theorem sum_bins_rev (x : Fin n → EReal) (k : Fin 100) :
    ∑ p : Fin 100, (if p.val ≤ k.rev.val then bin x (p.rev.val + 1) else 0) = above x k.val := by
  rw [← sum_bins x k.val k.isLt, ← Equiv.sum_comp Fin.revPerm]
  have hterm : ∀ q : Fin 100, (if (Fin.revPerm q).val ≤ k.rev.val then bin x ((Fin.revPerm q).rev.val + 1) else 0)
      = if k.val ≤ q.val then bin x (q.val + 1) else 0 := by
    intro q
    rw [Fin.revPerm_apply, Fin.rev_rev]
    refine if_congr ?_ rfl rfl
    rw [← Fin.le_def, Fin.rev_le_rev, Fin.le_def]
  rw [Finset.sum_congr rfl fun q _ => hterm q, Fin.sum_univ_eq_sum_range (fun q => if k.val ≤ q then bin x (q + 1) else 0) 100,
    ← Finset.sum_filter]
  refine Finset.sum_congr (Finset.ext fun q => ?_) fun _ _ => rfl
  rw [Finset.mem_filter, Finset.mem_range, Finset.mem_Ico]
  exact and_comm

/-- A sum of real numbers is real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real sum of the entries above threshold `k`. -/
def aboveR (x : Fin n → EReal) (k : ℕ) : ℝ := ∑ j, if thr k < x j then (x j).toReal else 0

/-- When no entry is `+∞`, the sum above a threshold is a real number. -/
theorem above_real (x : Fin n → EReal) (hx : ∀ j, x j < ⊤) (k : ℕ) : above x k = (aboveR x k : EReal) := by
  unfold above aboveR
  rw [coe_sum]
  refine Finset.sum_congr rfl fun j _ => ?_
  by_cases h : thr k < x j
  · rw [if_pos h, if_pos h, EReal.coe_toReal (hx j).ne]
    exact ne_of_gt (lt_of_le_of_lt bot_le h)
  · rw [if_neg h, if_neg h, EReal.coe_zero]

/-- A bin is the difference of the sums above its two thresholds. -/
theorem bin_eq_sub (x : Fin n → EReal) (hx : ∀ j, x j < ⊤) (k : ℕ) (hk : k < 99) :
    bin x (k + 1) = ((aboveR x k - aboveR x (k + 1) : ℝ) : EReal) := by
  have e := sum_bins x k (by omega)
  rw [Finset.sum_eq_sum_Ico_succ_bot (by omega), sum_bins x (k + 1) (by omega), above_real x hx, above_real x hx] at e
  have h := congrArg (fun z : EReal => z - (aboveR x (k + 1) : EReal)) e
  rw [EReal.coe_sub]
  exact (EReal.add_sub_cancel_right).symm.trans h

/-- The differences of a curve `s`, each times `w`; the last is the mean of the two before it. -/
def diffs (s : ℕ → EReal) (w : EReal) (k : Fin 100) : EReal :=
  if k.val < 99 then (s k.val - s (k.val + 1)) * w
  else ((s 98 - s 99) * w + (s 97 - s 98) * w) * ((1 / 2 : ℝ) : EReal)

/-- The trapezoid area of a hundred ordinates at unit distance, as the kernel sums it. -/
def area (f : Fin 100 → EReal) : EReal := ∑ k, f k - ((1 / 2 : ℝ) : EReal) * (f 0 + f 99)

/-- Over the reals the area is the sum of the trapezoids. -/
theorem area_real (g : Fin 100 → ℝ) :
    area (fun k => (g k : EReal))
      = 0 + ∑ i : Fin 99, ((g i.castSucc : EReal) + (g i.succ : EReal)) * ((1 / 2 : ℝ) : EReal) := by
  have e : (∑ k, g k) - 1 / 2 * (g 0 + g 99) = ∑ i : Fin 99, (g i.castSucc + g i.succ) * (1 / 2) := by
    rw [← Finset.sum_mul, Finset.sum_add_distrib]
    have h0 := Fin.sum_univ_succ g
    have h1 := Fin.sum_univ_castSucc g
    have h9 : g (Fin.last 99) = g 99 := rfl
    linarith
  unfold area
  beta_reduce
  rw [zero_add, ← coe_sum, ← EReal.coe_add, ← EReal.coe_mul, ← EReal.coe_sub, e, coe_sum]
  refine Finset.sum_congr rfl fun i _ => ?_
  rw [EReal.coe_mul, EReal.coe_add]

end Cert.Curve

end
-- ==== Proof.Block.lean ====
/-
  What the kernel adds into its scratch at one grid point: for every row of the 8 x 2048 block of `x` and every lane
  below 100, the sum of the entries of the row that exceed the lane's threshold.
-/
module

public import proofs.«01_k».proof.Proof.Curve
public import proofs.«01_k».proof.Proof.Gen.KernelIdeal.Skeleton
public import Idealize.ShloMosaic.Lib.Pointwise
public import Idealize.ShloMosaic.PureOps.IdealRules

@[expose] public section

noncomputable section

namespace Cert.KernelIdeal.Block

open Cert.Curve Cert.KernelIdeal Cert.KernelIdeal.Gen Idealize.ShloMosaic

/-- The number the kernel's literal `b`, named `n`, stands for. -/
abbrev named (n : String) (b : BitVec 32) : EReal := Named.named (F := Ideal) κ n (φ := .f32) b

/-- The thresholds in the order the kernel meets them, as it writes them. -/
def table : List EReal :=
  [
    Ideal.ofBits .f32 0x00000000#32, named "t1" 0x3C257EB5#32, named "t2" 0x3CA57EB5#32, named "t3" 0x3CF83E10#32,
    named "t4" 0x3D257EB5#32, named "t5" 0x3D4EDE62#32, named "t6" 0x3D783E10#32, named "t7" 0x3D90CEDE#32,
    named "t8" 0x3DA57EB5#32, named "t9" 0x3DBA2E8C#32, named "t10" 0x3DCEDE62#32, named "t11" 0x3DE38E39#32,
    named "t12" 0x3DF83E10#32, named "t13" 0x3E0676F3#32, named "t14" 0x3E10CEDE#32, named "t15" 0x3E1B26CA#32,
    named "t16" 0x3E257EB5#32, named "t17" 0x3E2FD6A0#32, named "t18" 0x3E3A2E8C#32, named "t19" 0x3E448677#32,
    named "t20" 0x3E4EDE62#32, named "t21" 0x3E59364E#32, named "t22" 0x3E638E39#32, named "t23" 0x3E6DE624#32,
    named "t24" 0x3E783E10#32, named "t25" 0x3E814AFD#32, named "t26" 0x3E8676F3#32, named "t27" 0x3E8BA2E9#32,
    named "t28" 0x3E90CEDE#32, named "t29" 0x3E95FAD4#32, named "t30" 0x3E9B26CA#32, named "t31" 0x3EA052BF#32,
    named "t32" 0x3EA57EB5#32, named "t33" 0x3EAAAAAB#32, named "t34" 0x3EAFD6A0#32, named "t35" 0x3EB50296#32,
    named "t36" 0x3EBA2E8C#32, named "t37" 0x3EBF5A81#32, named "t38" 0x3EC48677#32, named "t39" 0x3EC9B26D#32,
    named "t40" 0x3ECEDE62#32, named "t41" 0x3ED40A58#32, named "t42" 0x3ED9364E#32, named "t43" 0x3EDE6243#32,
    named "t44" 0x3EE38E39#32, named "t45" 0x3EE8BA2F#32, named "t46" 0x3EEDE624#32, named "t47" 0x3EF3121A#32,
    named "t48" 0x3EF83E10#32, named "t49" 0x3EFD6A05#32, named "t50" 0x3F014AFD#32, named "t51" 0x3F03E0F8#32,
    named "t52" 0x3F0676F3#32, named "t53" 0x3F090CEE#32, named "t54" 0x3F0BA2E9#32, named "t55" 0x3F0E38E4#32,
    named "t56" 0x3F10CEDE#32, named "t57" 0x3F1364D9#32, named "t58" 0x3F15FAD4#32, named "t59" 0x3F1890CF#32,
    named "t60" 0x3F1B26CA#32, named "t61" 0x3F1DBCC5#32, named "t62" 0x3F2052BF#32, named "t63" 0x3F22E8BA#32,
    named "t64" 0x3F257EB5#32, named "t65" 0x3F2814B0#32, named "t66" 0x3F2AAAAB#32, named "t67" 0x3F2D40A5#32,
    named "t68" 0x3F2FD6A0#32, named "t69" 0x3F326C9B#32, named "t70" 0x3F350296#32, named "t71" 0x3F379891#32,
    named "t72" 0x3F3A2E8C#32, named "t73" 0x3F3CC486#32, named "t74" 0x3F3F5A81#32, named "t75" 0x3F41F07C#32,
    named "t76" 0x3F448677#32, named "t77" 0x3F471C72#32, named "t78" 0x3F49B26D#32, named "t79" 0x3F4C4867#32,
    named "t80" 0x3F4EDE62#32, named "t81" 0x3F51745D#32, named "t82" 0x3F540A58#32, named "t83" 0x3F56A053#32,
    named "t84" 0x3F59364E#32, named "t85" 0x3F5BCC48#32, named "t86" 0x3F5E6243#32, named "t87" 0x3F60F83E#32,
    named "t88" 0x3F638E39#32, named "t89" 0x3F662434#32, named "t90" 0x3F68BA2F#32, named "t91" 0x3F6B5029#32,
    named "t92" 0x3F6DE624#32, named "t93" 0x3F707C1F#32, named "t94" 0x3F73121A#32, named "t95" 0x3F75A815#32,
    named "t96" 0x3F783E10#32, named "t97" 0x3F7AD40A#32, named "t98" 0x3F7D6A05#32, Ideal.ofBits .f32 0x3F800000#32
  ]

/-- The lane number at every place of the scratch. -/
abbrev lanes : IVec S8x128 32 := iota .tc S8x128 32 [1] iota_S8x128_d1_w32

/-- One threshold's contribution: lane `k` of the running block is replaced by the row sums of the entries above `t`. -/
def step (v : Vec Ideal S8x2048 .f32) (acc : FVec Ideal S8x128 .f32) (k : BitVec 32) (t : EReal) : FVec Ideal S8x128 .f32 :=
  select (cmpi .eq lanes (broadcast S8x128 k))
    (broadcastTo S8x128 (shapeCast S8x1 (shapeCast S8x1 (multiReduction (F := Ideal) .add [1] S8
      (select (cmpf (F := Ideal) (φ := .f32) .ogt v (broadcast S8x2048 (t : Ideal .f32))) v (broadcast S8x2048 (Scalar.ofBits (F := Ideal) .f32 0x00000000#32)) : Vec Ideal S8x2048 .f32)
      0x00000000#32 reduces_S8x2048_S8 (.inl rfl) rfl) shapeCasts_S8_S8x1) shapeCasts_S8x1_S8x1) broadcasts_S8x1_S8x128) acc

/-- What the body computes from a block of `x` before it touches the scratch. -/
def upd (v : Vec Ideal S8x2048 .f32) : FVec Ideal S8x128 .f32 :=
  k0_pay1 lanes (k0_pay57 v lanes (k0_pay55 v lanes (k0_pay53 v lanes (k0_pay51 v lanes (k0_pay49 v lanes (k0_pay47 v lanes (k0_pay45 v lanes (k0_pay43 v lanes (k0_pay41 v lanes (k0_pay39 v lanes (k0_pay37 v lanes (k0_pay35 v lanes (k0_pay33 v lanes (k0_pay31 v lanes (k0_pay29 v lanes (k0_pay27 v lanes (k0_pay25 v lanes (k0_pay23 v lanes (k0_pay21 v lanes (k0_pay19 v lanes (k0_pay17 v lanes (k0_pay15 v lanes (k0_pay13 v lanes (k0_pay11 v lanes (k0_pay9 v) (k0_pay10 v)) (k0_pay12 v)) (k0_pay14 v)) (k0_pay16 v)) (k0_pay18 v)) (k0_pay20 v)) (k0_pay22 v)) (k0_pay24 v)) (k0_pay26 v)) (k0_pay28 v)) (k0_pay30 v)) (k0_pay32 v)) (k0_pay34 v)) (k0_pay36 v)) (k0_pay38 v)) (k0_pay40 v)) (k0_pay42 v)) (k0_pay44 v)) (k0_pay46 v)) (k0_pay48 v)) (k0_pay50 v)) (k0_pay52 v)) (k0_pay54 v)) (k0_pay56 v)) (k0_pay58 v)

/-- The body's hundred steps are one step repeated over the table. -/
theorem upd_eq_fold (v : Vec Ideal S8x2048 .f32) :
    upd v = (List.range 100).foldl (fun acc k => step v acc (BitVec.ofNat 32 k) (table.getD k 0))
      (broadcast S8x128 (Scalar.ofBits (F := Ideal) .f32 0x00000000#32)) := by
  rfl

/-- A list holds the thresholds from number `n` on, in order. -/
def HoldsFrom : List EReal → ℕ → Prop
  | [], _ => True
  | a :: L, n => a = thr n ∧ HoldsFrom L (n + 1)

/-- An entry of such a list is the threshold its position names. -/
theorem HoldsFrom.getD {L : List EReal} : ∀ {n : ℕ}, HoldsFrom L n → ∀ k < L.length, L.getD k 0 = thr (n + k) := by
  induction L with
  | nil => intro n _ k hk; exact absurd hk (Nat.not_lt_zero k)
  | cons a L ih =>
    intro n h k hk
    cases k with
    | zero => exact h.1
    | succ k =>
      have e := ih h.2 k (Nat.lt_of_succ_lt_succ hk)
      rw [List.getD_cons_succ, e, Nat.add_assoc, Nat.add_comm 1 k]

/-- The table holds the thresholds in order. -/
theorem table_holds : HoldsFrom table 0 := by
  simp only [table, HoldsFrom, Nat.reduceAdd, and_true]
  and_intros
  all_goals first
    | (refine (IdealRules.named_const.ideal_named_scalar κ _ _ _ rfl).trans ?_; unfold thr; norm_num)
    | (rw [Ideal.ofBits_zero_f32]; simp [thr])
    | (rw [Ideal.ofBits_one_f32]; unfold thr; norm_num)

/-- Every entry of the table is the threshold its position names. -/
theorem table_eq (k : ℕ) (hk : k < 100) : table.getD k 0 = thr k := by
  have h := table_holds.getD k (show k < table.length from hk)
  rwa [Nat.zero_add] at h

/-- The sum of the entries of row `r` of the block that exceed `t`. -/
def rowSum (v : Vec Ideal S8x2048 .f32) (t : EReal) (r : Fin 8) : EReal :=
  ∑ j : Fin 2048, if t < v (ix2 r j) then v (ix2 r j) else 0

/-- One step read at a place: the row sum on the step's lane, the running block elsewhere. -/
theorem step_at (v : Vec Ideal S8x2048 .f32) (acc : FVec Ideal S8x128 .f32) (k : ℕ) (hk : k < 128) (t : EReal)
    (r : Fin 8) (l : Fin 128) :
    step v acc (BitVec.ofNat 32 k) t (ix2 r l) = if l.val = k then rowSum v t r else acc (ix2 r l) := by
  have hz : l.val = k ↔ BitVec.ofNat 32 l.val = BitVec.ofNat 32 k := by
    constructor
    · rintro rfl; rfl
    · intro h
      have := congrArg BitVec.toNat h
      simp only [BitVec.toNat_ofNat] at this
      have := l.isLt
      omega
  pointwise [step, rowSum]
  by_cases h : BitVec.ofNat 32 l.val = BitVec.ofNat 32 k
  · have e : IntOp.cmpi CmpIPredicate.eq (BitVec.ofNat 32 l.val) (BitVec.ofNat 32 k) = 1#1 := by
      simp [IntOp.cmpi, h]
    rw [e, if_pos (hz.2 h)]
    rfl
  · have e : IntOp.cmpi CmpIPredicate.eq (BitVec.ofNat 32 l.val) (BitVec.ofNat 32 k) = 0#1 := by
      simp [IntOp.cmpi, beq_eq_false_iff_ne.2 h]
    rw [e, if_neg (fun h' => h (hz.1 h'))]
    rfl

/-- The first `n` steps read at a place: below lane `n` the row sum for the lane's threshold, zero from there on. -/
theorem fold_at (v : Vec Ideal S8x2048 .f32) (t : ℕ → EReal) (r : Fin 8) (l : Fin 128) (n : ℕ) (hn : n ≤ 128) :
    (List.range n).foldl (fun acc k => step v acc (BitVec.ofNat 32 k) (t k))
      (broadcast S8x128 (Scalar.ofBits (F := Ideal) .f32 0x00000000#32)) (ix2 r l)
      = if l.val < n then rowSum v (t l.val) r else 0 := by
  induction n with
  | zero =>
    rw [if_neg (Nat.not_lt_zero _)]
    exact Ideal.ofBits_zero_f32
  | succ n ih =>
    rw [List.range_succ, List.foldl_append, List.foldl_cons, List.foldl_nil, step_at v _ n hn, ih (Nat.le_of_succ_le hn)]
    by_cases h : l.val = n
    · rw [if_pos h, if_pos (by omega), h]
    · rw [if_neg h]
      by_cases h' : l.val < n
      · rw [if_pos h', if_pos (by omega)]
      · rw [if_neg h', if_neg (by omega)]

/-- What the body computes from a block, at a lane below 100: the sum of the row's entries above the lane's threshold. -/
theorem upd_at (v : Vec Ideal S8x2048 .f32) (r : Fin 8) (l : Fin 128) (hl : l.val < 100) :
    upd v (ix2 r l) = rowSum v (thr l.val) r := by
  rw [upd_eq_fold, fold_at v _ r l 100 (by decide), if_pos hl, table_eq _ hl]

end Cert.KernelIdeal.Block

end
-- ==== Proof.Cases.lean ====
/-
  What one run of the kernel's body leaves in the scratch and in the four output blocks, in each of its three cases: the
  first block of a row, a middle block, and the last block.
-/
module

public import proofs.«01_k».proof.Proof.Block
public import proofs.«01_k».proof.Proof.Gen.KernelIdeal.Frame

@[expose] public section

set_option maxRecDepth 16384

noncomputable section

namespace Cert.KernelIdeal.Cases

open Cert.KernelIdeal Cert.KernelIdeal.Gen Cert.KernelIdeal.Block Idealize.ShloMosaic Idealize.ShloMosaic.TcCoe

/-- The corner every access starts at. -/
theorem corner : (![0, 0] : Fin 2 → Nat) = fun _ => 0 := funext fun a => by fin_cases a <;> rfl

/-- The update of the scratch is an addition. -/
theorem pay3_eq (v1 : IVec S8x128 32) (u : FVec Ideal S8x128 .f32) (v : Vec Ideal S8x2048 .f32) (s : Vec Ideal S8x128 .f32) :
    k0_pay3 v1 u v s = addf s (k0_pay1 v1 u v) := by
  unfold k0_pay3
  dsimp only
  rw [shapeCast_self]

variable (c : Dev nD) (i : grid0.Coords)
  (a2 : Memref sig .tc .vmem S8x2048 .f32) (h2 : a2.IsWhole) (a3 : Memref sig .tc .vmem S8x1 .f32) (h3 : a3.IsWhole)
  (a4 : Memref sig .tc .vmem S8x100 .f32) (h4 : a4.IsWhole) (a5 : Memref sig .tc .vmem S8x100 .f32) (h5 : a5.IsWhole)
  (a6 : Memref sig .tc .vmem S8x1 .f32) (h6 : a6.IsWhole) (a7 : Memref sig .tc .vmem S8x1 .f32) (h7 : a7.IsWhole)
  (a8 : Memref sig .tc .vmem S8x128 .f32) (h8 : a8.IsWhole)
  (x : Vec Ideal S8x2048 .f32) (y : Vec Ideal S8x1 .f32) (s : Vec Ideal S8x128 .f32)

/-- On the first block of a row the scratch ends holding the block's sums. -/
theorem scratch_first (hc0 : cond0_0 i) (hc1 : ¬cond0_1 i) (hc2 : ¬cond0_2 i) :
    sout0_A_0 c i a2 h2 a3 h3 a4 h4 a5 h5 a6 h6 a7 h7 a8 h8 hc0 hc1 hc2 x y = upd x := by
  unfold sout0_A_0
  rw [View.read_writes_eq_canon _ _ _ (scover0_A_0 c i a2 h2 a3 h3 a4 h4 a5 h5 a6 h6 a7 h7 a8 h8 hc0 hc1 hc2 x y)]
  unfold kernelRun0_A; dsimp only
  rw [View.canon_unit_zero corner]
  sl_unfold_words
  simp only [View.readAt_eq_ld, h2.read_unread, View.ld_unit_zero (S := S8x2048) corner]
  unfold k0_pay2
  rw [shapeCast_self]
  rfl

/-- On a middle block the scratch ends holding what it held plus the block's sums. -/
theorem scratch_middle (hc0 : ¬cond0_0 i) (hc1 : cond0_1 i) (hc2 : ¬cond0_2 i) :
    sout0_B_0 c i a2 h2 a3 h3 a4 h4 a5 h5 a6 h6 a7 h7 a8 h8 hc0 hc1 hc2 x y s = addf s (upd x) := by
  unfold sout0_B_0
  rw [View.read_writes_eq_canon _ _ _ (scover0_B_0 c i a2 h2 a3 h3 a4 h4 a5 h5 a6 h6 a7 h7 a8 h8 hc0 hc1 hc2 x y s)]
  unfold kernelRun0_B; dsimp only
  rw [View.canon_unit_zero corner]
  sl_unfold_words
  simp only [View.readAt_eq_ld, h2.read_unread, h8.read_unread, View.ld_unit_zero (S := S8x2048) corner,
    View.ld_unit_zero (S := S8x128) corner]
  exact pay3_eq _ _ _ _

/-- On the last block likewise. -/
theorem scratch_last (hc0 : ¬cond0_0 i) (hc1 : cond0_1 i) (hc2 : cond0_2 i) :
    sout0_C_0 c i a2 h2 a3 h3 a4 h4 a5 h5 a6 h6 a7 h7 a8 h8 hc0 hc1 hc2 x y s = addf s (upd x) := by
  unfold sout0_C_0
  rw [View.read_writes_eq_canon _ _ _ (scover0_C_0 c i a2 h2 a3 h3 a4 h4 a5 h5 a6 h6 a7 h7 a8 h8 hc0 hc1 hc2 x y s)]
  unfold kernelRun0_C; dsimp only
  sl_unfold_words
  rw [View.canon_unit_zero corner]
  simp only [View.readAt_eq_ld, h2.read_unread, h8.read_unread, View.ld_unit_zero (S := S8x2048) corner,
    View.ld_unit_zero (S := S8x128) corner]
  exact pay3_eq _ _ _ _

/-- On the last block the curve is stored, computed from the finished scratch and the row's divisor. -/
theorem roc_last (hc0 : ¬cond0_0 i) (hc1 : cond0_1 i) (hc2 : cond0_2 i) :
    out0_C_2 c i a2 h2 a3 h3 a4 h4 a5 h5 a6 h6 a7 h7 a8 h8 hc0 hc1 hc2 x y s = k0_pay5 (addf s (upd x)) y := by
  unfold out0_C_2
  rw [View.read_writes_eq_canon _ _ _ (cover0_C_2 c i a2 h2 a3 h3 a4 h4 a5 h5 a6 h6 a7 h7 a8 h8 hc0 hc1 hc2 x y s)]
  unfold kernelRun0_C; dsimp only
  rw [View.canon_unit_zero corner]
  sl_unfold_words
  rw [View.readCov_unit_zero (S := S8x128) _ corner]
  simp only [View.readAt_eq_ld, h2.read_unread, h3.read_unread, h8.read_unread, View.ld_unit_zero (S := S8x2048) corner,
    View.ld_unit_zero (S := S8x128) corner, View.ld_unit_zero (S := S8x1) corner]
  rw [pay3_eq]
  rfl

/-- On the last block the differences is stored, computed from the finished scratch and the row's divisor. -/
theorem deriv_last (hc0 : ¬cond0_0 i) (hc1 : cond0_1 i) (hc2 : cond0_2 i) :
    out0_C_3 c i a2 h2 a3 h3 a4 h4 a5 h5 a6 h6 a7 h7 a8 h8 hc0 hc1 hc2 x y s = k0_pay6 (addf s (upd x)) y := by
  unfold out0_C_3
  rw [View.read_writes_eq_canon _ _ _ (cover0_C_3 c i a2 h2 a3 h3 a4 h4 a5 h5 a6 h6 a7 h7 a8 h8 hc0 hc1 hc2 x y s)]
  unfold kernelRun0_C; dsimp only
  rw [View.canon_unit_zero corner]
  sl_unfold_words
  rw [View.readCov_unit_zero (S := S8x128) _ corner]
  simp only [View.readAt_eq_ld, h2.read_unread, h3.read_unread, h8.read_unread, View.ld_unit_zero (S := S8x2048) corner,
    View.ld_unit_zero (S := S8x128) corner, View.ld_unit_zero (S := S8x1) corner]
  rw [pay3_eq]
  rfl

/-- On the last block the area under the curve is stored, computed from the finished scratch and the row's divisor. -/
theorem area1_last (hc0 : ¬cond0_0 i) (hc1 : cond0_1 i) (hc2 : cond0_2 i) :
    out0_C_4 c i a2 h2 a3 h3 a4 h4 a5 h5 a6 h6 a7 h7 a8 h8 hc0 hc1 hc2 x y s = k0_pay7 (addf s (upd x)) y := by
  unfold out0_C_4
  rw [View.read_writes_eq_canon _ _ _ (cover0_C_4 c i a2 h2 a3 h3 a4 h4 a5 h5 a6 h6 a7 h7 a8 h8 hc0 hc1 hc2 x y s)]
  unfold kernelRun0_C; dsimp only
  rw [View.canon_unit_zero corner]
  sl_unfold_words
  rw [View.readCov_unit_zero (S := S8x128) _ corner]
  simp only [View.readAt_eq_ld, h2.read_unread, h3.read_unread, h8.read_unread, View.ld_unit_zero (S := S8x2048) corner,
    View.ld_unit_zero (S := S8x128) corner, View.ld_unit_zero (S := S8x1) corner]
  rw [pay3_eq]
  rfl

/-- On the last block the area under the differences is stored, computed from the finished scratch and the row's divisor. -/
theorem area2_last (hc0 : ¬cond0_0 i) (hc1 : cond0_1 i) (hc2 : cond0_2 i) :
    out0_C_5 c i a2 h2 a3 h3 a4 h4 a5 h5 a6 h6 a7 h7 a8 h8 hc0 hc1 hc2 x y s = k0_pay8 (addf s (upd x)) y := by
  unfold out0_C_5
  rw [View.read_writes_eq_canon _ _ _ (cover0_C_5 c i a2 h2 a3 h3 a4 h4 a5 h5 a6 h6 a7 h7 a8 h8 hc0 hc1 hc2 x y s)]
  unfold kernelRun0_C; dsimp only
  rw [View.canon_unit_zero corner]
  sl_unfold_words
  rw [View.readCov_unit_zero (S := S8x128) _ corner]
  simp only [View.readAt_eq_ld, h2.read_unread, h3.read_unread, h8.read_unread, View.ld_unit_zero (S := S8x2048) corner,
    View.ld_unit_zero (S := S8x128) corner, View.ld_unit_zero (S := S8x1) corner]
  rw [pay3_eq]
  rfl

end Cert.KernelIdeal.Cases

end
-- ==== Proof.Blocks.lean ====
/-
  What the kernel's two input blocks hold at a grid point: eight rows by 2048 columns of `x`, and eight entries of `y`.
-/
module

public import proofs.«01_k».proof.Proof.Gen.KernelIdeal.Frame
public import Idealize.ShloMosaic.Lib.Pointwise
public import Idealize.ShloMosaic.Lib.Claim

@[expose] public section

set_option maxRecDepth 16384

noncomputable section

namespace Cert.KernelIdeal.Blocks

open Cert.KernelIdeal Cert.KernelIdeal.Gen Idealize.ShloMosaic Idealize.ShloMosaic.TcCoe

variable (m : (ℓ : Loc nD τ sig) → Buf (Elt Ideal) ℓ)

/-- The block of `x` at point `t` is block `(t / 8, t % 8)`. -/
theorem x_index : ∀ t : Fin cfg0.N, win0_0.index t (0 : Fin 2) = t.val / 8 ∧ win0_0.index t (1 : Fin 2) = t.val % 8 :=
  (by decide +kernel : ∀ t : Fin grid0.N, _)

/-- The block of `y` at point `t` is block `(t / 8, 0)`. -/
theorem y_index : ∀ t : Fin cfg0.N, win0_1.index t (0 : Fin 2) = t.val / 8 ∧ win0_1.index t (1 : Fin 2) = 0 :=
  (by decide +kernel : ∀ t : Fin grid0.N, _)

/-- The block of `x` at point `t`, read at an index. -/
theorem x_at (c : Dev nD) (t : Fin cfg0.N) (r : Fin 8) (j : Fin 2048) (R : Fin 4096) (J : Fin 16384)
    (hR : R.val = 8 * (t.val / 8) + r.val) (hJ : J.val = (t.val % 8) * 2048 + j.val) :
    (iblk m c 0 t : Vec Ideal S8x2048 .f32) (ix2 r j) = (m ((c : Thread nD τ).loc main_arg0) : Vec Ideal S4096x16384 .f32) (ix2 R J) := by
  obtain ⟨h0, h1⟩ := x_index t
  unfold iblk
  rw [View.read_apply]
  show V m c main_arg0 _ = m (c.tc.loc main_arg0) _
  rw [V_main_arg0]
  congr 1
  funext a
  apply Fin.ext
  match a with
  | ⟨0, _⟩ => show win0_0.index t 0 * 8 + 1 * r.val = R.val; rw [h0, hR]; omega
  | ⟨1, _⟩ => show win0_0.index t 1 * 2048 + 1 * j.val = J.val; rw [h1, hJ]; omega

/-- The column the kernel is given holds the entries of `y`. -/
theorem column_at (c : Dev nD) (R : Fin 4096) :
    (V m c main_v0 : Vec Ideal S4096x1 .f32) (ix2 R 0) = (m ((c : Thread nD τ).loc main_arg1) : Vec Ideal S4096 .f32) (ix1 R) := by
  entry_read
  pointwise []

/-- The block of `y` at point `t`, read at an index. -/
theorem y_at (c : Dev nD) (t : Fin cfg0.N) (r : Fin 8) (R : Fin 4096) (hR : R.val = 8 * (t.val / 8) + r.val) :
    (iblk m c 1 t : Vec Ideal S8x1 .f32) (ix2 r 0) = (m ((c : Thread nD τ).loc main_arg1) : Vec Ideal S4096 .f32) (ix1 R) := by
  obtain ⟨h0, h1⟩ := y_index t
  rw [← column_at m c R]
  unfold iblk
  rw [View.read_apply]
  show V m c main_v0 _ = V m c main_v0 _
  congr 1
  funext a
  apply Fin.ext
  match a with
  | ⟨0, _⟩ => show win0_1.index t 0 * 8 + 1 * r.val = R.val; rw [h0, hR]; omega
  | ⟨1, _⟩ => show win0_1.index t 1 * 1 + 1 * 0 = 0; rw [h1]

end Cert.KernelIdeal.Blocks

end
-- ==== Proof.Out.lean ====
/-
  What the kernel stores at the last grid point of a row block, read at an index: from the scratch (the sums above the
  thresholds, `S`) and the column `y`, the curve, its differences, and the two areas.
-/
module

public import proofs.«01_k».proof.Proof.Curve
public import proofs.«01_k».proof.Proof.Gen.KernelIdeal.Skeleton
public import Idealize.ShloMosaic.Lib.Pointwise

@[expose] public section

noncomputable section

namespace Cert.KernelIdeal.Out

open Cert.Curve Cert.KernelIdeal Cert.KernelIdeal.Gen Idealize.ShloMosaic

variable (s : Vec Ideal S8x128 .f32) (y : Vec Ideal S8x1 .f32) (r : Fin 8) (S : ℕ → EReal)

/-- The lanes of row `r` of the scratch below 100 hold `S`. -/
def Holds : Prop := ∀ l : Fin 128, l.val < 100 → s (ix2 r l) = S l.val

/-- The curve: the sums times the reciprocal of the row's divisor. -/
theorem roc_at (hs : Holds s r S) (k : Fin 100) : k0_pay5 s y (ix2 r k) = S k.val * Ideal.div 1 (y (ix2 r 0)) := by
  pointwise [k0_pay5, k0_pay4]
  rw [hs _ k.isLt]

/-- The differences of the sums times the reciprocal. -/
theorem deriv_at (hs : Holds s r S) (k : Fin 100) : k0_pay6 s y (ix2 r k) = diffs S (Ideal.div 1 (y (ix2 r 0))) k := by
  have hk := k.isLt
  pointwise [k0_pay6, k0_pay4]
  unfold diffs
  split
  · next h =>
    rw [hs _ hk, hs _ (show 1 + k.val < 100 by omega)]
    show (S k.val - S (1 + k.val)) * _ = _
    rw [Nat.add_comm 1 k.val]
  · next h =>
    have e : k.val = 99 := by omega
    rw [← half, hs _ (show 98 + (k.val - 99) < 100 by omega), hs _ (show 1 + (98 + (k.val - 99)) < 100 by omega),
      hs _ (show 97 + (k.val - 99) < 100 by omega), hs _ (show 1 + (97 + (k.val - 99)) < 100 by omega)]
    simp only [e]

/-- The area under the curve. -/
theorem area1_at (hs : Holds s r S) : k0_pay7 s y (ix2 r 0) = area fun k => S k.val * Ideal.div 1 (y (ix2 r 0)) := by
  have h := roc_at s y r S hs
  have e : k0_pay7 s y (ix2 r 0) = area fun k => k0_pay5 s y (ix2 r k) := by
    unfold area
    rw [← half]
    pointwise [k0_pay7]
  rw [e, funext h]

/-- The area under the differences. -/
theorem area2_at (hs : Holds s r S) : k0_pay8 s y (ix2 r 0) = area (diffs S (Ideal.div 1 (y (ix2 r 0)))) := by
  have h := deriv_at s y r S hs
  have e : k0_pay8 s y (ix2 r 0) = area fun k => k0_pay6 s y (ix2 r k) := by
    unfold area
    rw [← half]
    pointwise [k0_pay8]
  rw [e, funext h]

end Cert.KernelIdeal.Out

end
-- ==== Proof.Array.lean ====
/-
  What the kernel's four result arrays hold: row by row, the curve of the sums above the thresholds, its differences, and
  the two areas.
-/
module

public import proofs.«01_k».proof.Proof.Cases
public import proofs.«01_k».proof.Proof.Blocks
public import proofs.«01_k».proof.Proof.Out
public import proofs.«01_k».proof.Proof.Gen.KernelIdeal.Value

@[expose] public section

set_option maxRecDepth 16384

noncomputable section

namespace Cert.KernelIdeal.Array

open Cert.Curve Cert.KernelIdeal Cert.KernelIdeal.Gen Cert.KernelIdeal.Block Cert.KernelIdeal.Value
open Idealize.ShloMosaic Idealize.ShloMosaic.TcCoe

variable (m : (ℓ : Loc nD τ sig) → Buf (Elt Ideal) ℓ) (c : Dev nD)

/-- Row `R` of `x`. -/
def xrow (R : Fin 4096) : Fin 16384 → EReal := fun j => (m ((c : Thread nD τ).loc main_arg0) : Vec Ideal S4096x16384 .f32) (ix2 R j)

/-- Entry `R` of `y`. -/
def yval (R : Fin 4096) : EReal := (m ((c : Thread nD τ).loc main_arg1) : Vec Ideal S4096 .f32) (ix1 R)

/-- The sum of the entries above threshold `k` among the 2048 columns of block `b`. -/
def part (x : Fin 16384 → EReal) (k b : ℕ) : EReal :=
  if h : b < 8 then ∑ j : Fin 2048, (if thr k < x ⟨b * 2048 + j.val, by omega⟩ then x ⟨b * 2048 + j.val, by omega⟩ else 0)
  else 0

/-- The eight blocks' sums add up to the row's. -/
theorem sum_parts (x : Fin 16384 → EReal) (k : ℕ) : ∑ b ∈ Finset.range 8, part x k b = above x k := by
  have h := Fin.sum_univ_tiles 8 2048 (N := 16384) (by decide) fun j => if thr k < x j then x j else 0
  unfold above
  rw [Finset.sum_range, h]
  refine Finset.sum_congr rfl fun b _ => ?_
  unfold part
  rw [dif_pos b.isLt]

/-- The sums of the block at point `t` are a part of the row's. -/
theorem rowSum_eq (t : Fin cfg0.N) (r : Fin 8) (R : Fin 4096) (hR : R.val = 8 * (t.val / 8) + r.val) (k : ℕ) :
    rowSum (iblk m c 0 t : Vec Ideal S8x2048 .f32) (thr k) r = part (xrow m c R) k (t.val % 8) := by
  have h : t.val % 8 < 8 := Nat.mod_lt _ (by decide)
  unfold rowSum part
  rw [dif_pos h]
  refine Finset.sum_congr rfl fun j _ => ?_
  rw [Blocks.x_at m c t r j R ⟨t.val % 8 * 2048 + j.val, by omega⟩ hR rfl]
  rfl

/-- The first point of a row block leaves its block's sums in the scratch. -/
theorem step_first (t : Fin cfg0.N) (h0 : t.val % 8 = 0) :
    (outsAt0 m c t.val t.isLt).2.2.2.2 = upd (iblk m c 0 t : Vec Ideal S8x2048 .f32) := by
  rw [outsAt0_A m c t h0 (by omega) (by omega)]
  dsimp only
  rw [Cases.scratch_first]

/-- Every other point adds its block's sums to what the scratch held. -/
theorem step_next (t : Fin cfg0.N) (h0 : ¬t.val % 8 = 0) :
    (outsAt0 m c t.val t.isLt).2.2.2.2
      = addf (outsAt0 m c (t.val - 1) (Nat.lt_of_le_of_lt (Nat.sub_le _ _) t.isLt)).2.2.2.2 (upd (iblk m c 0 t : Vec Ideal S8x2048 .f32)) := by
  by_cases h7 : t.val % 8 = 7
  · rw [outsAt0_C m c t h0 (by omega) h7]
    dsimp only
    rw [Cases.scratch_last]
  · rw [outsAt0_B m c t h0 (by omega) h7]
    dsimp only
    rw [Cases.scratch_middle]

/-- After point `n` the scratch holds, on every lane below 100, the sum of the blocks met so far in the row. -/
theorem scratch_at (n : ℕ) (hn : n < cfg0.N) (r : Fin 8) (R : Fin 4096) (hR : R.val = 8 * (n / 8) + r.val) (l : Fin 128)
    (hl : l.val < 100) :
    (outsAt0 m c n hn).2.2.2.2 (ix2 r l) = ∑ b ∈ Finset.range (n % 8 + 1), part (xrow m c R) l.val b := by
  induction n with
  | zero =>
    refine (congrFun (step_first m c ⟨0, hn⟩ rfl) (ix2 r l)).trans ?_
    rw [upd_at _ _ _ hl, rowSum_eq m c ⟨0, hn⟩ r R hR, Finset.sum_range_one]
    rfl
  | succ n ih =>
    by_cases h0 : (n + 1) % 8 = 0
    · refine (congrFun (step_first m c ⟨n + 1, hn⟩ h0) (ix2 r l)).trans ?_
      rw [upd_at _ _ _ hl, rowSum_eq m c ⟨n + 1, hn⟩ r R hR, h0, Finset.sum_range_one]
    · have hs := ih (Nat.lt_of_succ_lt hn) (by omega)
      have hm : (n + 1) % 8 = n % 8 + 1 := by omega
      refine (congrFun (step_next m c ⟨n + 1, hn⟩ h0) (ix2 r l)).trans ?_
      show (outsAt0 m c n (Nat.lt_of_succ_lt hn)).2.2.2.2 (ix2 r l) + upd _ (ix2 r l) = _
      rw [hs, upd_at _ _ _ hl, rowSum_eq m c ⟨n + 1, hn⟩ r R hR, hm, Finset.sum_range_succ _ (n % 8 + 1)]

/-- The scratch as the last point of a row block reads it: lane by lane, the whole row's sum. -/
def finished (t : Fin cfg0.N) : Vec Ideal S8x128 .f32 :=
  addf (outsAt0 m c (t.val - 1) (Nat.lt_of_le_of_lt (Nat.sub_le _ _) t.isLt)).2.2.2.2 (upd (iblk m c 0 t : Vec Ideal S8x2048 .f32))

/-- It holds the sums above the thresholds. -/
theorem finished_holds (t : Fin cfg0.N) (h7 : t.val % 8 = 7) (r : Fin 8) (R : Fin 4096) (hR : R.val = 8 * (t.val / 8) + r.val) :
    Out.Holds (finished m c t) r (above (xrow m c R)) := by
  intro l hl
  have e : (outsAt0 m c t.val t.isLt).2.2.2.2 = finished m c t := step_next m c t (by omega)
  refine (congrFun e (ix2 r l)).symm.trans ?_
  refine (scratch_at m c t.val t.isLt r R hR l hl).trans ?_
  rw [h7]
  exact sum_parts _ _

/-- The last point of the row block that holds row `R`. -/
def lastPt (R : Fin 4096) : Fin cfg0.N := ⟨8 * (R.val / 8) + 7, lt_of_lt_of_eq (by omega) N_0.symm⟩

/-- What a row's last point leaves in the four output blocks. -/
theorem outs_last (R : Fin 4096) :
    (outsAt0 m c (lastPt R).val (lastPt R).isLt).1 = k0_pay5 (finished m c (lastPt R)) (iblk m c 1 (lastPt R) : Vec Ideal S8x1 .f32)
      ∧ (outsAt0 m c (lastPt R).val (lastPt R).isLt).2.1 = k0_pay6 (finished m c (lastPt R)) (iblk m c 1 (lastPt R) : Vec Ideal S8x1 .f32)
      ∧ (outsAt0 m c (lastPt R).val (lastPt R).isLt).2.2.1 = k0_pay7 (finished m c (lastPt R)) (iblk m c 1 (lastPt R) : Vec Ideal S8x1 .f32)
      ∧ (outsAt0 m c (lastPt R).val (lastPt R).isLt).2.2.2.1 = k0_pay8 (finished m c (lastPt R)) (iblk m c 1 (lastPt R) : Vec Ideal S8x1 .f32) := by
  have h7 : (lastPt R).val % 8 = 7 := by show (8 * (R.val / 8) + 7) % 8 = 7; omega
  have e := outsAt0_C m c (lastPt R) (by omega) (by omega) h7
  unfold finished
  rw [e]
  dsimp only
  rw [Cases.roc_last, Cases.deriv_last, Cases.area1_last, Cases.area2_last]
  exact ⟨rfl, rfl, rfl, rfl⟩

/-- The place of row `R` in its block. -/
def place (R : Fin 4096) : Fin 8 := ⟨R.val % 8, Nat.mod_lt _ (by decide)⟩

/-- The row's number, from its block and its place. -/
theorem row_eq (R : Fin 4096) : R.val = 8 * ((lastPt R).val / 8) + (place R).val := by
  show R.val = 8 * ((8 * (R.val / 8) + 7) / 8) + R.val % 8
  omega

/-- The scratch that row's last point reads holds the row's sums. -/
theorem holds (R : Fin 4096) : Out.Holds (finished m c (lastPt R)) (place R) (above (xrow m c R)) :=
  finished_holds m c (lastPt R) (by show (8 * (R.val / 8) + 7) % 8 = 7; omega) (place R) R (row_eq R)

/-- The divisor that row's last point reads. -/
theorem divisor (R : Fin 4096) : (iblk m c 1 (lastPt R) : Vec Ideal S8x1 .f32) (ix2 (place R) 0) = yval m c R :=
  Blocks.y_at m c (lastPt R) (place R) R (row_eq R)

/-- The fold at an equal point is the same. -/
theorem fold_eq (n : ℕ) (R : Fin 4096) (h : n = (lastPt R).val) (hn : 0 + n < cfg0.N) :
    Idealize.ShloMosaic.Pipeline.accAt (fun n h => stAt0 m c n h junk0) (stAt0 m c) 0 n hn
      = outsAt0 m c (lastPt R).val (lastPt R).isLt := by
  subst h
  exact (outsAt0_sweep m c _ (lastPt R).isLt).symm

/-- The first result: the sums above the thresholds, times the reciprocal of the row's divisor. -/
theorem roc_at (R : Fin 4096) (k : Fin 100) :
    (G2 m c : Vec Ideal S4096x100 .f32) (ix2 R k) = above (xrow m c R) k.val * Ideal.div 1 (yval m c R) := by
  have hp : pt2Of (ix2 R k : S4096x100.Idx) = (lastPt R).val := by
    show 8 * (1 * (R.val / 8 - 0) + 1 * (k.val / 100 - 0)) + 7 = 8 * (R.val / 8) + 7
    omega
  have hl : loc2Of (ix2 R k : S4096x100.Idx) = ix2 (place R) k := by
    funext a; apply Fin.ext
    match a with
    | ⟨0, _⟩ => rfl
    | ⟨1, _⟩ => exact Nat.mod_eq_of_lt k.isLt
  unfold G2
  rw [dif_pos (by rw [hp]; exact (lastPt R).isLt), fold_eq m c _ R hp, (outs_last m c R).1, hl,
    Out.roc_at _ _ _ _ (holds m c R), divisor]

/-- The second result: the differences of the sums, times the reciprocal. -/
theorem deriv_at (R : Fin 4096) (k : Fin 100) :
    (G3 m c : Vec Ideal S4096x100 .f32) (ix2 R k) = diffs (above (xrow m c R)) (Ideal.div 1 (yval m c R)) k := by
  have hp : pt3Of (ix2 R k : S4096x100.Idx) = (lastPt R).val := by
    show 8 * (1 * (R.val / 8 - 0) + 1 * (k.val / 100 - 0)) + 7 = 8 * (R.val / 8) + 7
    omega
  have hl : loc3Of (ix2 R k : S4096x100.Idx) = ix2 (place R) k := by
    funext a; apply Fin.ext
    match a with
    | ⟨0, _⟩ => rfl
    | ⟨1, _⟩ => exact Nat.mod_eq_of_lt k.isLt
  unfold G3
  rw [dif_pos (by rw [hp]; exact (lastPt R).isLt), fold_eq m c _ R hp, (outs_last m c R).2.1, hl,
    Out.deriv_at _ _ _ _ (holds m c R), divisor]

/-- The third result: the area under the curve. -/
theorem area1_at (R : Fin 4096) :
    (G4 m c : Vec Ideal S4096x1 .f32) (ix2 R 0) = area fun k => above (xrow m c R) k.val * Ideal.div 1 (yval m c R) := by
  have hp : pt4Of (ix2 R 0 : S4096x1.Idx) = (lastPt R).val := by
    show 8 * (1 * (R.val / 8 - 0) + 1 * (0 / 1 - 0)) + 7 = 8 * (R.val / 8) + 7
    omega
  have hl : loc4Of (ix2 R 0 : S4096x1.Idx) = ix2 (place R) 0 := by
    funext a; apply Fin.ext
    match a with
    | ⟨0, _⟩ => rfl
    | ⟨1, _⟩ => rfl
  unfold G4
  rw [dif_pos (by rw [hp]; exact (lastPt R).isLt), fold_eq m c _ R hp, (outs_last m c R).2.2.1, hl,
    Out.area1_at _ _ _ _ (holds m c R), divisor]

/-- The fourth result: the area under the differences. -/
theorem area2_at (R : Fin 4096) :
    (G5 m c : Vec Ideal S4096x1 .f32) (ix2 R 0) = area (diffs (above (xrow m c R)) (Ideal.div 1 (yval m c R))) := by
  have hp : pt5Of (ix2 R 0 : S4096x1.Idx) = (lastPt R).val := by
    show 8 * (1 * (R.val / 8 - 0) + 1 * (0 / 1 - 0)) + 7 = 8 * (R.val / 8) + 7
    omega
  have hl : loc5Of (ix2 R 0 : S4096x1.Idx) = ix2 (place R) 0 := by
    funext a; apply Fin.ext
    match a with
    | ⟨0, _⟩ => rfl
    | ⟨1, _⟩ => rfl
  unfold G5
  rw [dif_pos (by rw [hp]; exact (lastPt R).isLt), fold_eq m c _ R hp, (outs_last m c R).2.2.2, hl,
    Out.area2_at _ _ _ _ (holds m c R), divisor]

end Cert.KernelIdeal.Array

end
-- ==== Proof.HostOps.lean ====
/-
  Three of the reference's operations read at an index, at any extents: the count of a mask's set bits along its last
  axis, a scatter-add of scalars into a vector, and a running sum along the rows of a matrix.
-/
module

public import Idealize.ShloMosaic.Lib.Routing.OpsPair
public import Idealize.ShloMosaic.Lib.Routing.OpsSearch
public import Idealize.ShloMosaic.PureOps.Ideal
public import Idealize.ShloMosaic.PureOps.Ideal.Laws

@[expose] public section

noncomputable section

namespace Cert.HostOps

open Idealize.ShloMosaic Idealize.ShloMosaic.ValueIdx
open Idealize.ShloMosaic.Routing (shape0 shape1 shape2 shape3)

/-- Summing the widened bits of an `[a, b, N]` mask over its last axis counts the set bits at each place. -/
theorem count_last {a b N : ℕ} (hN : N < 2 ^ 32) (msk : IVec (shape3 a b N) 1) (hw : 1 < 32)
    (h : (shape3 a b N).ReducesTo [2] (shape2 a b)) {u : Shape} (hu : 0 < u.numel) (p : Fin a) (q : Fin b) :
    (Host.reduce IntOp.addi (extui 32 msk hw) (constantI u 32 0#32) h hu (ix2 p q)).toNat
      = (Finset.univ.filter fun k : Fin N => msk (ix3 p q k) = 1#1).card := by
  classical
  have hbit : ∀ i, (extui 32 msk hw i).toNat = if msk i = 1#1 then 1 else 0 :=
    fun i => StableHlo.Predicate.toNat_setWidth_bit (msk i)
  have hd : ∀ i : (shape3 a b N).Idx, h.drop i = ix2 p q ↔ ∃ k : Fin N, ix3 p q k = i := by
    intro i
    have h0 : (h.drop i 0 : ℕ) = i 0 := Shape.ReducesTo.drop_apply_val h i 0
    have h1 : (h.drop i 1 : ℕ) = i 1 := Shape.ReducesTo.drop_apply_val h i 1
    constructor
    · intro e
      rw [e] at h0 h1
      refine ⟨i 2, funext fun c => ?_⟩
      match c with
      | ⟨0, _⟩ => exact Fin.ext h0
      | ⟨1, _⟩ => exact Fin.ext h1
      | ⟨2, _⟩ => rfl
    · rintro ⟨k, rfl⟩
      funext c
      match c with
      | ⟨0, _⟩ => exact Fin.ext h0
      | ⟨1, _⟩ => exact Fin.ext h1
  have hinj : Function.Injective fun k : Fin N => (ix3 p q k : (shape3 a b N).Idx) := fun k k' e => congrFun e 2
  have hset : (Finset.univ.filter fun i : (shape3 a b N).Idx => h.drop i = ix2 p q)
      = Finset.univ.map ⟨fun k : Fin N => ix3 p q k, hinj⟩ := by
    ext i
    simp only [Finset.mem_filter, Finset.mem_univ, true_and, Finset.mem_map, Function.Embedding.coeFn_mk]
    exact hd i
  have hsum : ∑ i ∈ Finset.univ.filter (fun i : (shape3 a b N).Idx => h.drop i = ix2 p q), (extui 32 msk hw i).toNat
      = (Finset.univ.filter fun k : Fin N => msk (ix3 p q k) = 1#1).card := by
    rw [hset, Finset.sum_map, Finset.card_filter]
    exact Finset.sum_congr rfl fun k _ => hbit _
  rw [Host.reduce_eq_fold]
  show (Finset.fold IntOp.addi 0#32 (extui 32 msk hw) (Finset.univ.filter fun i : (shape3 a b N).Idx => h.drop i = ix2 p q)).toNat = _
  rw [StableHlo.Predicate.toNat_fold_addi _ _ (by
    rw [hsum]; exact lt_of_le_of_lt (Finset.card_le_univ _) (by simpa using hN)), hsum]

/-- Update `i` of a scatter of `M` scalars into a vector of `N` entries lands at entry `x` exactly when its index word,
    read signed, is `x`. -/
theorem scatter_lands_at {N M : ℕ} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ix1 i) idx = some (ix1 x) ↔ (idx (ix2 i (0 : Fin 1))).toInt = (x.val : Int) := by
  have hwin : d.window (ix1 i) 0 = 0 := by
    unfold ScatterDims.window
    rw [dif_neg fun h => (of_decide_eq_true (List.mem_filter.1 h).2) (by rw [hiw]; exact List.mem_singleton.2 rfl)]
  have hm : (0 : Fin 1) ∈ d.scatterDimsToOperandDims := by rw [hsd]; exact List.mem_singleton.2 rfl
  have hstart : d.start (ix1 i) idx 0 = (idx (ix2 i (0 : Fin 1))).toInt := by
    unfold ScatterDims.start
    rw [dif_pos hm]
    refine congrArg (fun z => (idx z).toInt) (funext fun b => Fin.ext ?_)
    match b with
    | ⟨0, _⟩ =>
      unfold ScatterDims.siIdx
      rw [dif_neg (by rw [hivd]; exact Nat.zero_ne_one)]
      unfold ScatterDims.siCoord
      rw [Fin.val_cast]
      exact congrArg (fun z : Fin 1 => (ix1 i z).val) (Subsingleton.elim _ (0 : Fin 1))
    | ⟨1, _⟩ =>
      unfold ScatterDims.siIdx
      rw [dif_pos (by rw [hivd])]
      show List.idxOf (0 : Fin 1) d.scatterDimsToOperandDims = 0
      rw [hsd]
      rfl
  rw [Routing.resultIdx?_ix1, hstart, hwin]
  simp

/-- A sum over the indices of a vector is the sum over its positions. -/
theorem sum_ix1 {M : ℕ} {α : Type*} [AddCommMonoid α] (f : (shape1 M).Idx → α) : ∑ i, f i = ∑ n : Fin M, f (ix1 n) := by
  refine Fintype.sum_equiv ⟨fun i => i 0, fun n => ix1 n, fun i => funext fun c => ?_, fun _ => rfl⟩ _ _ fun i => congrArg f (funext fun c => ?_)
  · obtain rfl : c = 0 := Subsingleton.elim _ _
    rfl
  · obtain rfl : c = 0 := Subsingleton.elim _ _
    rfl

/-- A scatter-add of scalars read at entry `x`: what was there plus the updates whose index word is `x`. -/
theorem scatterAdd_at {N M : ℕ} (d : ScatterDims (shape1 N) (shape2 M 1) (shape1 M)) (hiw : d.insertedWindowDims = [0])
    (hsd : d.scatterDimsToOperandDims = [0]) (hivd : d.indexVectorDim = 1) (v : FVec Ideal (shape1 N) .f32)
    (idx : IVec (shape2 M 1) 32) (upd : FVec Ideal (shape1 M) .f32) (x : Fin N) :
    Host.scatterAdd d v idx upd (ix1 x)
      = v (ix1 x) + ∑ n : Fin M, if (idx (ix2 n (0 : Fin 1))).toInt = (x.val : Int) then upd (ix1 n) else (0 : EReal) := by
  unfold Host.scatterAdd
  rw [Ideal.hostScatterAdd_def]
  show v (ix1 x) + ∑ j ∈ Finset.univ.filter (fun j => d.resultIdx? j idx = some (ix1 x)), upd j = _
  rw [Finset.sum_filter, sum_ix1]
  refine congrArg (v (ix1 x) + ·) (Finset.sum_congr rfl fun n _ => ?_)
  exact if_congr (scatter_lands_at d hiw hsd hivd idx n x) rfl rfl

/-- A left fold of additions is the start plus the sum. -/
theorem foldl_sum {ι : Type*} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A running sum along the rows of a matrix (a window of the whole row, padded low by one less): entry `j` of a row is
    the sum of the row's entries up to `j`. -/
theorem runningSum_at {R N L : ℕ} (hL : L + 1 = N) (x : FVec Ideal (shape2 R N) .f32) (init : FVec Ideal shape0 .f32)
    (hi : ∀ z, init z = (0 : EReal)) (h : (shape2 R N).ReduceWindows ![1, N] ![1, 1] ![0, L] ![0, 0] (shape2 R N))
    (hu : 0 < shape0.numel) (r : Fin R) (j : Fin N) :
    Host.reduceWindowAdd (F := Ideal) ![1, N] ![1, 1] ![0, L] ![0, 0] x init h hu (ix2 r j)
      = ∑ p : Fin N, if p.val ≤ j.val then x (ix2 r p) else (0 : EReal) := by
  subst hL
  have hj := j.isLt
  let W : Shape := ⟨2, ![1, L + 1]⟩
  let G : W.Idx → EReal := fun w =>
    if hin : ∀ a : Fin 2, (![0, L] : Fin 2 → ℕ) a ≤ (ix2 r j a).val * (![1, 1] : Fin 2 → ℕ) a + (w a).val
        ∧ (ix2 r j a).val * (![1, 1] : Fin 2 → ℕ) a + (w a).val - (![0, L] : Fin 2 → ℕ) a < (shape2 R (L + 1)).size a
      then x (fun a => ⟨(ix2 r j a).val * (![1, 1] : Fin 2 → ℕ) a + (w a).val - (![0, L] : Fin 2 → ℕ) a, (hin a).2⟩)
      else init (Shape.Idx.first hu)
  have hG : ∀ q : Fin (L + 1), G (ix2 (0 : Fin 1) q)
      = if hq : L ≤ j.val + q.val then x (ix2 r ⟨j.val + q.val - L, by have := q.isLt; omega⟩) else (0 : EReal) := by
    intro q
    have hq' := q.isLt
    have hr := r.isLt
    by_cases hq : L ≤ j.val + q.val
    · rw [dif_pos hq]
      refine (dif_pos fun a => ?_).trans (congrArg x (funext fun a => Fin.ext ?_))
      · match a with
        | ⟨0, _⟩ =>
          show 0 ≤ r.val * 1 + 0 ∧ r.val * 1 + 0 - 0 < R
          omega
        | ⟨1, _⟩ =>
          show L ≤ j.val * 1 + q.val ∧ j.val * 1 + q.val - L < L + 1
          omega
      · match a with
        | ⟨0, _⟩ =>
          show r.val * 1 + 0 - 0 = r.val
          omega
        | ⟨1, _⟩ =>
          show j.val * 1 + q.val - L = j.val + q.val - L
          omega
    · rw [dif_neg hq]
      refine (dif_neg fun hin => hq ?_).trans (hi _)
      have h1 : L ≤ j.val * 1 + q.val := (hin 1).1
      omega
  unfold Host.reduceWindowAdd
  rw [Ideal.hostReduceWindowAdd_def]
  unfold Ideal.hostReduceWindowAdd Host.reduceWindow
  have hf : ∀ (l : List (Fin W.numel)) (f : EReal → Fin W.numel → EReal) (v : EReal),
      (∀ s n, f s n = s + G (W.rowMajor.symm n)) → l.foldl f v = v + (l.map fun n => G (W.rowMajor.symm n)).sum := by
    intro l f v e
    rw [← foldl_sum, funext fun s => funext fun n => e s n]
  refine (hf _ _ _ fun s n => ?_).trans ?_
  · dsimp only [G]
    refine congrArg (s + ·) ?_
    split
    · next hin =>
      rw [dif_pos]
      · rfl
      · exact hin
    · next hin =>
      rw [dif_neg]
      exact hin
  rw [hi, zero_add, ← Fin.sum_univ_def, Equiv.sum_comp W.rowMajor.symm G, sum_idx2, Fin.sum_univ_one]
  rw [Finset.sum_congr rfl fun q _ => hG q, ← Finset.sum_filter, Finset.sum_dite, Finset.sum_const_zero, add_zero]
  have hp : ∀ p : Fin (L + 1), p ∈ Finset.univ.filter (fun p : Fin (L + 1) => p.val ≤ j.val) → p.val + L - j.val < L + 1 :=
    fun p hp => by have := (Finset.mem_filter.1 hp).2; omega
  have hq : ∀ q : Fin (L + 1), q ∈ Finset.univ.filter (fun q : Fin (L + 1) => L ≤ j.val + q.val) → L ≤ j.val + q.val :=
    fun q hq => (Finset.mem_filter.1 hq).2
  refine Finset.sum_bij' (fun q _ => ⟨j.val + q.1.val - L, by have := q.1.isLt; omega⟩)
    (fun p h => ⟨⟨p.val + L - j.val, hp p h⟩, Finset.mem_filter.2 ⟨Finset.mem_univ _, ?_⟩⟩)
    (fun q _ => Finset.mem_filter.2 ⟨Finset.mem_univ _, ?_⟩) (fun _ _ => Finset.mem_univ _)
    (fun q _ => Subtype.ext (Fin.ext ?_)) (fun p _ => Fin.ext ?_) (fun _ _ => rfl)
  · have := (Finset.mem_filter.1 h).2
    show L ≤ j.val + (p.val + L - j.val)
    omega
  · have := q.1.isLt
    show j.val + q.1.val - L ≤ j.val
    omega
  · have := hq _ q.2
    show j.val + q.1.val - L + L - j.val = q.1.val
    omega
  · show j.val + (p.val + L - j.val) - L = p.val
    have := (Finset.mem_filter.1 ‹p ∈ _›).2
    omega

end Cert.HostOps

end
-- ==== Proof.RefBins.lean ====
/-
  What the reference puts in its bins: its thresholds are `k / 99`, the bin of an entry is the number of thresholds the
  entry exceeds, and a bin of a row holds the sum of the row's entries that fall in it.
-/
module

public import proofs.«01_k».proof.Proof.Curve
public import proofs.«01_k».proof.Proof.HostOps
public import proofs.«01_k».proof.Proof.Gen.ReferenceIdeal.Read
public import Idealize.ShloMosaic.Lib.Pointwise

@[expose] public section

noncomputable section

namespace Cert.ReferenceIdeal.Bins

open Cert.Curve Cert.ReferenceIdeal Cert.ReferenceIdeal.Gen Cert.ReferenceIdeal.Read Idealize.ShloMosaic

/-- The array of inputs. -/
abbrev XArr := (⟨S4096x16384, .f32⟩ : BufTy).Contents (Elt Ideal)

/-- Row `r` of the inputs. -/
abbrev row (x : XArr) (r : Fin 4096) : Fin 16384 → EReal := fun j => x (ix2 r j)

/-- The reference's hundred thresholds are `k / 99`. -/
theorem thresholds (k : Fin 100) : val_main_v0 (F := Ideal) (ix1 k) = thr k.val := by
  pointwise [val_main_v0, val_main_call0_v15, val_main_call0_v16, val_main_call0_v14, val_main_call0_v13, val_main_call0_v12,
    val_main_call0_v11, val_main_call0_v10, val_main_call0_v9, val_main_call0_v8, val_main_call0_v7, val_main_call0_v6,
    val_main_call0_v5, val_main_call0_v4, val_main_call0_v1, val_main_call0_v0, val_main_cst, val_main_cst_0,
    val_main_call0_cst_0, val_main_call0_cst_1]
  have h0 : (id (constant (F := Ideal) S_ FTy.f32 0#32) ix0 : EReal) = 0 := Ideal.ofBits_zero_f32
  have h1 : (id (constant (F := Ideal) S_ FTy.f32 1065353216#32) ix0 : EReal) = 1 := Ideal.ofBits_one_f32
  rw [h0, h1]
  have hk := k.isLt
  split
  · next h =>
    have hs : (FloatOps.sitofp (F := Ideal) FTy.f32 (BitVec.ofNat 32 k.val) : EReal) = ((k.val : ℝ) : EReal) := by
      show (((BitVec.ofNat 32 k.val).toInt : ℝ) : EReal) = _
      rw [StableHlo.Predicate.toInt_ofNat_small _ (by omega)]
      norm_num
    rw [hs, show Ideal.ofBits FTy.f32 1120272384#32 = ((99 : ℝ) : EReal) from ninetyNine, Ideal.div_coe (by norm_num), ← EReal.coe_mul,
      zero_mul, zero_add, one_mul]
    unfold thr
    rw [mul_one_div]
  · next h =>
    have e : k.val = 99 := by omega
    rw [e]
    unfold thr
    norm_num

/-- The number of thresholds the reference counts below an entry. -/
theorem count_word (x : XArr) (r : Fin 4096) (j : Fin 16384) :
    (val_main_v7 (F := Ideal) x (ix2 r j)).toNat = rank (row x r j) := by
  unfold val_main_v7 val_main_v6
  refine (HostOps.count_last (by norm_num) _ _ _ _ r j).trans ?_
  unfold rank
  refine congrArg Finset.card (Finset.filter_congr fun k _ => ?_)
  rw [← thresholds k]
  pointwise [val_main_v5, val_main_v4, val_main_v3, val_main_v2, val_main_v1]
  by_cases h : val_main_v0 (F := Ideal) (ix1 k) < row x r j
  · exact iff_of_true (congrArg BitVec.ofBool (decide_eq_true h)) h
  · refine iff_of_false (fun e => ?_) h
    have e' := (congrArg BitVec.ofBool (decide_eq_false h)).symm.trans e
    exact absurd e' (by decide)

/-- The bin word of an entry: its row times 101 plus its number of thresholds. -/
theorem bin_word (x : XArr) (r : Fin 4096) (j : Fin 16384) :
    (val_main_v17 (F := Ideal) x (ix2 r j)).toNat = r.val * 101 + rank (row x r j) := by
  pointwise [val_main_v17, val_main_v16, val_main_v15, val_main_v14, val_main_v13, val_main_v12, val_main_v11, val_main_v10,
    val_main_v9, val_main_v8, val_main_c_1, val_main_c_2, val_main_c_3]
  have hc := count_word x r j
  have hb := rank_le (row x r j)
  have hr := r.isLt
  generalize val_main_v7 (F := Ideal) x (ix2 r j) = w at hc ⊢
  show (BitVec.ofNat 32 r.val * 101#32 + (w - 1#32 + 1#32)).toNat = _
  rw [BitVec.sub_add_cancel, BitVec.toNat_add, BitVec.toNat_mul, BitVec.toNat_ofNat, hc]
  norm_num
  omega

/-- Where an entry's bin word stands among all the words. -/
theorem flat_word (x : XArr) (r : Fin 4096) (j : Fin 16384) (n : Fin 67108864) (hn : n.val = r.val * 16384 + j.val) :
    (val_main_v21 (F := Ideal) x (ValueIdx.ix2 n (0 : Fin 1))).toInt = ((r.val * 101 + rank (row x r j) : ℕ) : ℤ) := by
  have hj := j.isLt
  have hr := r.isLt
  have hb := rank_le (row x r j)
  have hi : idx_main_v18 (idx_main_v21 (ValueIdx.ix2 n (0 : Fin 1))) = ix2 r j := by
    funext a
    match a with
    | ⟨0, _⟩ => exact Fin.ext (show n.val / 16384 = r.val by omega)
    | ⟨1, _⟩ => exact Fin.ext (show n.val % 16384 = j.val by omega)
  rw [val_main_v21_apply, val_main_v18_apply, hi]
  have hw := bin_word x r j
  rw [StableHlo.Predicate.toInt_eq_toNat_of_lt (by omega), hw]

/-- Where an entry stands among all the entries. -/
theorem flat_entry (x : XArr) (r : Fin 4096) (j : Fin 16384) (n : Fin 67108864) (hn : n.val = r.val * 16384 + j.val) :
    val_main_v19 (F := Ideal) x (ValueIdx.ix1 n) = row x r j := by
  have hj := j.isLt
  have hi : idx_main_v19 (ValueIdx.ix1 n) = ix2 r j := by
    funext a
    match a with
    | ⟨0, _⟩ => exact Fin.ext (show n.val / 16384 = r.val by omega)
    | ⟨1, _⟩ => exact Fin.ext (show n.val % 16384 = j.val by omega)
  rw [val_main_v19_apply, hi]

/-- Entry `c` of row `r` of the histogram is bin `c` of row `r` of the inputs. -/
theorem hist (x : XArr) (r : Fin 4096) (c : Fin 101) : val_main_v23 (F := Ideal) x (ix2 r c) = bin (row x r) c.val := by
  have hc := c.isLt
  have hp : r.val * 101 + c.val < 413696 := by have := r.isLt; omega
  rw [val_main_v23_apply]
  have hi : idx_main_v23 (ix2 r c) = ValueIdx.ix1 (⟨r.val * 101 + c.val, hp⟩ : Fin 413696) := by
    funext a
    match a with
    | ⟨0, _⟩ => rfl
  rw [hi]
  unfold val_main_v22
  rw [HostOps.scatterAdd_at (N := 413696) (M := 67108864) scatter_S413696_S67108864x1_S67108864_n_0_0_1 rfl rfl rfl
    (val_main_v20 (F := Ideal)) (val_main_v21 (F := Ideal) x) (val_main_v19 (F := Ideal) x) ⟨r.val * 101 + c.val, hp⟩]
  have h0 : val_main_v20 (F := Ideal) (ValueIdx.ix1 ⟨r.val * 101 + c.val, hp⟩) = (0 : EReal) := Ideal.ofBits_zero_f32
  rw [h0, zero_add, Fin.sum_univ_tiles 4096 16384 (by norm_num)]
  have hterm : ∀ (b : Fin 4096) (j : Fin 16384) (n : Fin 67108864) (_ : n.val = b.val * 16384 + j.val),
      (if (val_main_v21 (F := Ideal) x (ValueIdx.ix2 n (0 : Fin 1))).toInt = ((r.val * 101 + c.val : ℕ) : ℤ)
        then val_main_v19 (F := Ideal) x (ValueIdx.ix1 n) else (0 : EReal))
      = if b = r ∧ rank (row x b j) = c.val then row x b j else 0 := by
    intro b j n hn
    rw [flat_word x b j n hn, flat_entry x b j n hn]
    refine if_congr ?_ rfl rfl
    have hb := rank_le (row x b j)
    rw [Fin.ext_iff]
    omega
  rw [Finset.sum_congr rfl fun b _ => Finset.sum_congr rfl fun j _ => hterm b j _ rfl]
  unfold bin
  rw [Finset.sum_eq_single r]
  · exact Finset.sum_congr rfl fun j _ => if_congr (and_iff_right rfl) rfl rfl
  · exact fun b _ hbr => Finset.sum_eq_zero fun j _ => if_neg fun e => hbr e.1
  · exact fun h => absurd (Finset.mem_univ r) h

end Cert.ReferenceIdeal.Bins

end
-- ==== Proof.RefCurve.lean ====
/-
  What the reference makes of its bins: the curve (for each threshold the sum of the row's entries above it), and the
  bins themselves with the mean of the last two as a hundredth column.
-/
module

public import proofs.«01_k».proof.Proof.RefBins

@[expose] public section

noncomputable section

namespace Cert.ReferenceIdeal.Curves

open Cert.Curve Cert.ReferenceIdeal Cert.ReferenceIdeal.Gen Cert.ReferenceIdeal.Read Cert.ReferenceIdeal.Bins Idealize.ShloMosaic

/-- The array of divisors. -/
abbrev YArr := (⟨S4096, .f32⟩ : BufTy).Contents (Elt Ideal)

/-- The bins from the second on, in order. -/
theorem bins_at (x : XArr) (r : Fin 4096) (k : Fin 100) : val_main_v28 (F := Ideal) x (ix2 r k) = bin (row x r) (k.val + 1) := by
  have hk := k.isLt
  pointwise [val_main_v28, val_main_v27, val_main_v26, val_main_v25, val_main_v24]
  split
  · next h =>
    refine (hist x r _).trans (congrArg (bin (row x r)) ?_)
    exact Nat.add_comm 1 k.val
  · next h =>
    refine (hist x r _).trans (congrArg (bin (row x r)) ?_)
    show 100 = k.val + 1
    omega

/-- Column `k` of the curve is the sum of the row's entries above threshold `k`. -/
theorem curve_at (x : XArr) (r : Fin 4096) (k : Fin 100) : val_main_v31 (F := Ideal) x (ix2 r k) = above (row x r) k.val := by
  have hk := k.isLt
  have hflip : ∀ p : Fin 100, val_main_v29 (F := Ideal) x (ValueIdx.ix2 r p) = bin (row x r) (p.rev.val + 1) := by
    intro p
    have e : val_main_v29 (F := Ideal) x (ix2 r p) = val_main_v28 (F := Ideal) x (ix2 r p.rev) := by
      pointwise [val_main_v29]
      rfl
    exact e.trans (bins_at x r p.rev)
  have e : val_main_v31 (F := Ideal) x (ix2 r k) = val_main_v30 (F := Ideal) x (ValueIdx.ix2 r k.rev) := by
    pointwise [val_main_v31]
    rfl
  rw [e]
  unfold val_main_v30
  refine (HostOps.runningSum_at (L := 99) rfl _ _ (fun _ => Ideal.ofBits_zero_f32) _ _ r k.rev).trans ?_
  rw [← sum_bins_rev]
  exact Finset.sum_congr rfl fun p _ => if_congr Iff.rfl (hflip p) rfl

/-- The mean of the last two of the bins that have a bin after them. -/
theorem mean_at (x : XArr) (r : Fin 4096) : val_main_v39 (F := Ideal) x (ix2 r 0)
    = (bin (row x r) 99 + bin (row x r) 98) * ((1 / 2 : ℝ) : EReal) := by
  have h9 : idx_main_v24 (idx_main_v32 (idx_main_v33 (idx_main_v39 (ix2 r 0)))) = ix2 r (99 : Fin 101) := by
    funext a
    match a with
    | ⟨0, _⟩ => exact Fin.ext (Nat.div_one _)
    | ⟨1, _⟩ => rfl
  have h8 : idx_main_v24 (idx_main_v34 (idx_main_v35 (idx_main_v39 (ix2 r 0)))) = ix2 r (98 : Fin 101) := by
    funext a
    match a with
    | ⟨0, _⟩ => exact Fin.ext (Nat.div_one _)
    | ⟨1, _⟩ => rfl
  rw [val_main_v39_apply, val_main_v38_apply, val_main_v36_apply, val_main_v33_apply, val_main_v32_apply, val_main_v24_apply,
    val_main_v35_apply, val_main_v34_apply, val_main_v24_apply, val_main_v37_apply, h9, h8, hist, hist]
  have hh : val_main_cst_5 (F := Ideal) (idx_main_v37 (idx_main_v39 (ix2 r 0))) = ((1 / 2 : ℝ) : EReal) := half
  rw [hh]
  rfl

/-- The differences: the bins, and in the last column the mean of the two before it. -/
theorem diffs_at (x : XArr) (r : Fin 4096) (k : Fin 100) : val_main_v40 (F := Ideal) x (ix2 r k)
    = if k.val < 99 then bin (row x r) (k.val + 1)
      else (bin (row x r) 99 + bin (row x r) 98) * ((1 / 2 : ℝ) : EReal) := by
  have h24 : ∀ q : Fin 99, val_main_v24 (F := Ideal) x (ix2 r q) = bin (row x r) (q.val + 1) := by
    intro q
    pointwise [val_main_v24]
    exact (hist x r _).trans (congrArg (bin (row x r)) (Nat.add_comm 1 q.val))
  have h39 := mean_at x r
  unfold val_main_v40
  generalize val_main_v24 (F := Ideal) x = u at h24 ⊢
  generalize val_main_v39 (F := Ideal) x = v at h39 ⊢
  pointwise []
  split
  · next h => exact h24 _
  · next h =>
    rw [show (⟨k.val - 99, by have := k.isLt; omega⟩ : Fin 1) = 0 from Subsingleton.elim _ _]
    exact h39

/-- Column `k` of the first result: the curve over the divisor. -/
theorem roc_at (x : XArr) (y : YArr) (r : Fin 4096) (k : Fin 100) :
    val_main_v43 (F := Ideal) x y (ix2 r k) = Ideal.div (above (row x r) k.val) (y (ix1 r)) := by
  pointwise [val_main_v43, val_main_v42, val_main_v41]
  rw [curve_at]

/-- Column `k` of the second result: the differences over the divisor. -/
theorem deriv_at (x : XArr) (y : YArr) (r : Fin 4096) (k : Fin 100) : val_main_v46 (F := Ideal) x y (ix2 r k)
    = Ideal.div (if k.val < 99 then bin (row x r) (k.val + 1)
      else (bin (row x r) 99 + bin (row x r) 98) * ((1 / 2 : ℝ) : EReal)) (y (ix1 r)) := by
  pointwise [val_main_v46, val_main_v45, val_main_v44]
  rw [diffs_at]

/-- The third result: the trapezoids under the first. -/
theorem area1_at (x : XArr) (y : YArr) (r : Fin 4096) : val_main_v53 (F := Ideal) x y (ix2 r 0)
    = 0 + ∑ k : Fin 99, (val_main_v43 (F := Ideal) x y (ix2 r k.castSucc) + val_main_v43 (F := Ideal) x y (ix2 r k.succ))
        * ((1 / 2 : ℝ) : EReal) := by
  rw [zero_add, ← half]
  pointwise [val_main_v53, val_main_v52, val_main_v51, val_main_v50, val_main_v49, val_main_v48, val_main_v47, val_main_cst_6, val_main_cst_7]
  refine Finset.sum_congr rfl fun k _ => ?_
  rw [show (⟨1 + k.val, by omega⟩ : Fin 100) = k.succ from Fin.ext (Nat.add_comm 1 k.val)]
  rfl

/-- The fourth result: the trapezoids under the second. -/
theorem area2_at (x : XArr) (y : YArr) (r : Fin 4096) : val_main_v60 (F := Ideal) x y (ix2 r 0)
    = 0 + ∑ k : Fin 99, (val_main_v46 (F := Ideal) x y (ix2 r k.castSucc) + val_main_v46 (F := Ideal) x y (ix2 r k.succ))
        * ((1 / 2 : ℝ) : EReal) := by
  rw [zero_add, ← half]
  pointwise [val_main_v60, val_main_v59, val_main_v58, val_main_v57, val_main_v56, val_main_v55, val_main_v54, val_main_cst_8, val_main_cst_9]
  refine Finset.sum_congr rfl fun k _ => ?_
  rw [show (⟨1 + k.val, by omega⟩ : Fin 100) = k.succ from Fin.ext (Nat.add_comm 1 k.val)]
  rfl

end Cert.ReferenceIdeal.Curves

end
-- ==== Proof.Equation.lean ====
/-
  The equation of the two computations on one row: where no entry is `+∞` and the divisor is not zero, multiplying by the
  reciprocal is dividing, a difference of two sums above thresholds is a bin, and the two areas agree.
-/
module

public import proofs.«01_k».proof.Proof.Curve

@[expose] public section

noncomputable section

namespace Cert.Curve

open Idealize.ShloMosaic

variable {n : ℕ}

/-- The reciprocal of a divisor that is not zero is a real number, and dividing is multiplying by it. -/
theorem reciprocal {y : EReal} (hy : y ≠ 0) : ∃ w : ℝ, Ideal.div 1 y = (w : EReal) ∧ ∀ s, Ideal.div s y = s * (w : EReal) := by
  have hd : ∀ s, Ideal.div s y = s * y⁻¹ := fun s => if_neg hy
  have hw : ∃ w : ℝ, y⁻¹ = (w : EReal) := by
    induction y with
    | bot => exact ⟨0, EReal.inv_bot⟩
    | top => exact ⟨0, EReal.inv_top⟩
    | coe a => exact ⟨a⁻¹, (EReal.coe_inv a).symm⟩
  obtain ⟨w, hw⟩ := hw
  exact ⟨w, by rw [hd, one_mul, hw], fun s => by rw [hd, hw]⟩

/-- The curve times the reciprocal is the curve over the divisor. -/
theorem roc_eq {y : EReal} (hy : y ≠ 0) (s : EReal) : s * Ideal.div 1 y = Ideal.div s y := by
  obtain ⟨w, h1, h⟩ := reciprocal hy
  rw [h1, h]

/-- The differences of the curve times the reciprocal are the bins over the divisor. -/
theorem diffs_eq {y : EReal} (hy : y ≠ 0) (x : Fin n → EReal) (hx : ∀ j, x j < ⊤) (k : Fin 100) :
    diffs (above x) (Ideal.div 1 y) k
      = Ideal.div (if k.val < 99 then bin x (k.val + 1) else (bin x 99 + bin x 98) * ((1 / 2 : ℝ) : EReal)) y := by
  obtain ⟨w, h1, h⟩ := reciprocal hy
  unfold diffs
  simp only [h1, h, above_real x hx]
  split
  · next hk => rw [bin_eq_sub x hx k.val hk, EReal.coe_sub]
  · next hk =>
    rw [bin_eq_sub x hx 98 (by norm_num), bin_eq_sub x hx 97 (by norm_num)]
    simp only [← EReal.coe_sub, ← EReal.coe_mul, ← EReal.coe_add]
    exact congrArg _ (by ring)

/-- An entry of the curve over the divisor is a real number. -/
theorem roc_real {y : EReal} (hy : y ≠ 0) (x : Fin n → EReal) (hx : ∀ j, x j < ⊤) (k : ℕ) :
    ∃ g : ℝ, above x k * Ideal.div 1 y = (g : EReal) := by
  obtain ⟨w, h1, _⟩ := reciprocal hy
  exact ⟨aboveR x k * w, by rw [h1, above_real x hx, EReal.coe_mul]⟩

/-- A difference of the curve over the divisor is a real number. -/
theorem diffs_real {y : EReal} (hy : y ≠ 0) (x : Fin n → EReal) (hx : ∀ j, x j < ⊤) (k : Fin 100) :
    ∃ g : ℝ, diffs (above x) (Ideal.div 1 y) k = (g : EReal) := by
  obtain ⟨w, h1, _⟩ := reciprocal hy
  unfold diffs
  simp only [h1, above_real x hx, ← EReal.coe_sub, ← EReal.coe_mul, ← EReal.coe_add]
  split
  · exact ⟨_, rfl⟩
  · exact ⟨_, rfl⟩

/-- The area of a hundred real ordinates is the sum of the trapezoids. -/
theorem area_eq (f : Fin 100 → EReal) (hf : ∀ k, ∃ g : ℝ, f k = (g : EReal)) :
    area f = 0 + ∑ i : Fin 99, (f i.castSucc + f i.succ) * ((1 / 2 : ℝ) : EReal) := by
  choose g hg using hf
  obtain rfl : f = fun k => (g k : EReal) := funext hg
  exact area_real g

end Cert.Curve

end
-- ==== Proof.Results.lean ====
/-
  The kernel's four arrays are the reference's, on inputs where no entry of `x` is plus infinity and none of `y` is zero.
-/
module

public import proofs.«01_k».proof.Proof.Array
public import proofs.«01_k».proof.Proof.RefCurve
public import proofs.«01_k».proof.Proof.Equation

@[expose] public section

noncomputable section

namespace Cert.Results

open Cert.Curve Cert.KernelIdeal Cert.KernelIdeal.Gen Cert.KernelIdeal.Array Cert.KernelIdeal.Value
open Cert.ReferenceIdeal.Read Cert.ReferenceIdeal.Bins
open Idealize.ShloMosaic Idealize.ShloMosaic.TcCoe

variable (m : (ℓ : Loc nD τ sig) → Buf (Elt Ideal) ℓ) (c : Dev nD)

/-- The first argument on a device. -/
abbrev xs : XArr := m ((c : Thread nD τ).loc main_arg0)

/-- The second argument on a device. -/
abbrev ys : Cert.ReferenceIdeal.Curves.YArr := m ((c : Thread nD τ).loc main_arg1)

/-- What the precondition gives of a device's arguments. -/
structure Good : Prop where
  /-- No entry of `x` is plus infinity. -/
  x : ∀ R j, xrow m c R j < ⊤
  /-- No entry of `y` is zero. -/
  y : ∀ R, yval m c R ≠ 0

variable {m c}

/-- The curve. -/
theorem roc (h : Good m c) : (G2 m c : Vec Ideal S4096x100 .f32) = val_main_v43 (F := Ideal) (xs m c) (ys m c) := by
  funext i
  rw [eq_ix2 i]
  refine (roc_at m c (i 0) (i 1)).trans ((roc_eq (h.y _) _).trans ?_)
  exact (Cert.ReferenceIdeal.Curves.roc_at (xs m c) (ys m c) (i 0) (i 1)).symm

/-- The differences of the curve. -/
theorem deriv (h : Good m c) : (G3 m c : Vec Ideal S4096x100 .f32) = val_main_v46 (F := Ideal) (xs m c) (ys m c) := by
  funext i
  rw [eq_ix2 i]
  refine (deriv_at m c (i 0) (i 1)).trans ((diffs_eq (h.y _) _ (h.x _) _).trans ?_)
  exact (Cert.ReferenceIdeal.Curves.deriv_at (xs m c) (ys m c) (i 0) (i 1)).symm

/-- The area under the curve. -/
theorem area1 (h : Good m c) : (G4 m c : Vec Ideal S4096x1 .f32) = val_main_v53 (F := Ideal) (xs m c) (ys m c) := by
  funext i
  obtain ⟨R, rfl⟩ : ∃ R : Fin 4096, i = ix2 R 0 := ⟨i 0, by
    funext a
    match a with
    | ⟨0, _⟩ => rfl
    | ⟨1, _⟩ => exact Subsingleton.elim (α := Fin 1) _ _⟩
  refine (area1_at m c R).trans ((area_eq _ fun k => roc_real (h.y R) _ (h.x R) k.val).trans ?_)
  refine Eq.trans ?_ (Cert.ReferenceIdeal.Curves.area1_at (xs m c) (ys m c) R).symm
  have e : ∀ k : Fin 100, above (xrow m c R) k.val * Ideal.div 1 (yval m c R) = val_main_v43 (F := Ideal) (xs m c) (ys m c) (ix2 R k) :=
    fun k => (roc_at m c R k).symm.trans (congrFun (roc h) (ix2 R k))
  simp only [e]

/-- The area under the differences. -/
theorem area2 (h : Good m c) : (G5 m c : Vec Ideal S4096x1 .f32) = val_main_v60 (F := Ideal) (xs m c) (ys m c) := by
  funext i
  obtain ⟨R, rfl⟩ : ∃ R : Fin 4096, i = ix2 R 0 := ⟨i 0, by
    funext a
    match a with
    | ⟨0, _⟩ => rfl
    | ⟨1, _⟩ => exact Subsingleton.elim (α := Fin 1) _ _⟩
  refine (area2_at m c R).trans ((area_eq _ fun k => diffs_real (h.y R) _ (h.x R) k).trans ?_)
  refine Eq.trans ?_ (Cert.ReferenceIdeal.Curves.area2_at (xs m c) (ys m c) R).symm
  have e : ∀ k : Fin 100, diffs (above (xrow m c R)) (Ideal.div 1 (yval m c R)) k = val_main_v46 (F := Ideal) (xs m c) (ys m c) (ix2 R k) :=
    fun k => (deriv_at m c R k).symm.trans (congrFun (deriv h) (ix2 R k))
  simp only [e]

end Cert.Results

end
-- ==== Proof.lean ====
/-
  The certificate: the three programs run and leave their arguments alone, the ideal program is the kernel over the
  extended reals, and it computes what the reference computes.
-/
module

public import proofs.«01_k».proof.Defs
public import proofs.«01_k».proof.Proof.Pre
public import proofs.«01_k».proof.Proof.Results
public import proofs.«01_k».proof.Proof.Gen.Kernel.Frame
public import proofs.«01_k».proof.Proof.Gen.KernelIdeal.Value
public import proofs.«01_k».proof.Proof.Gen.ReferenceIdeal.Read
public import proofs.«01_k».proof.Proof.Gen.Pre_no_plus_infinity_and_y_nonzero
public import Idealize.ShloMosaic.Lib.Quiescent
public import Idealize.ShloMosaic.PureOps.IdealRules

@[expose] public section

namespace Cert.Proof

open Idealize.ShloMosaic Idealize.SL.Sem

/-- Each threshold the kernel writes as a rounded literal is the named number it stands for. -/
theorem preserved : Cert.preserves_Kernel_KernelIdeal := by
  unfold Cert.preserves_Kernel_KernelIdeal
  repeat (refine ⟨IdealRules.named_const.statement _ _ _ _ _ rfl, ?_⟩)
  exact IdealRules.named_const.statement _ _ _ _ _ rfl

/-- The reference runs, leaves its arguments alone, and ends with every counter at zero. -/
theorem reference_frame : letI := Cert.ReferenceIdeal.Gen.facts; Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The precondition, read on a device's arguments. -/
theorem good (m : (ℓ : Loc Cert.KernelIdeal.nD Cert.KernelIdeal.τ Cert.KernelIdeal.sig) → Buf (Elt Ideal) ℓ)
    (h : letI := Cert.Pre_no_plus_infinity_and_y_nonzero.Gen.facts; Cert.Pre_KernelIdeal_no_plus_infinity_and_y_nonzero m)
    (c : Dev Cert.KernelIdeal.nD) : Cert.Results.Good m c :=
  letI := Cert.Pre_no_plus_infinity_and_y_nonzero.Gen.facts
  ⟨fun _ _ => Cert.Inputs.x_lt _ _ (h c) _, fun _ => Cert.Inputs.y_ne _ _ (h c) _⟩

/-- Kernel and reference end with equal results. -/
theorem equal : letI := Cert.KernelIdeal.Gen.facts; letI := Cert.ReferenceIdeal.Gen.facts
    letI := Cert.Pre_no_plus_infinity_and_y_nonzero.Gen.facts
    Cert.algebraic_KernelIdeal_ReferenceIdeal_pre_no_plus_infinity_and_y_nonzero := by
  intro m ρ m' ρ' hpre hagree
  refine ⟨_, _, _, _, Cert.KernelIdeal.Value.run m ρ, (θ_run Cert.ReferenceIdeal.defs _ _).mono (fun _ h c =>
    ⟨(h c).1.trans ?_, (h c).2.1.trans ?_, (h c).2.2.1.trans ?_, (h c).2.2.2.1.trans ?_, (h c).2.2.2.2⟩)
    (Cert.ReferenceIdeal.Value.run m' ρ')⟩
  · rw [Cert.ReferenceIdeal.Read.val_main_v43_eq, (hagree c).1, (hagree c).2]
    exact (Cert.Results.roc (good m hpre c)).symm
  · rw [Cert.ReferenceIdeal.Read.val_main_v46_eq, (hagree c).1, (hagree c).2]
    exact (Cert.Results.deriv (good m hpre c)).symm
  · rw [Cert.ReferenceIdeal.Read.val_main_v53_eq, (hagree c).1, (hagree c).2]
    exact (Cert.Results.area1 (good m hpre c)).symm
  · rw [Cert.ReferenceIdeal.Read.val_main_v60_eq, (hagree c).1, (hagree c).2]
    exact (Cert.Results.area2 (good m hpre c)).symm

/-- Everything the certificate claims. -/
theorem claim : Cert.Claim :=
  ⟨Cert.Kernel.Gen.facts, Cert.KernelIdeal.Gen.facts, Cert.ReferenceIdeal.Gen.facts,
    Cert.Pre_no_plus_infinity_and_y_nonzero.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    preserved, equal⟩

end Cert.Proof
